-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S3x2x128x4096 : Shape := ⟨4, ![3, 2, 128, 4096]⟩
abbrev S3x2x2 : Shape := ⟨3, ![3, 2, 2]⟩
abbrev S_ : Shape := ⟨0, ![]⟩
abbrev S1x1x1 : Shape := ⟨3, ![1, 1, 1]⟩
abbrev S1x1x64x4096 : Shape := ⟨4, ![1, 1, 64, 4096]⟩
abbrev S64x4096 : Shape := ⟨2, ![64, 4096]⟩
abbrev S128x4096 : Shape := ⟨2, ![128, 4096]⟩
abbrev S128x128 : Shape := ⟨2, ![128, 128]⟩
abbrev S1x1x128x4096 : Shape := ⟨4, ![1, 1, 128, 4096]⟩
abbrev S64x128 : Shape := ⟨2, ![64, 128]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S4096x128, .f32⟩
  | .hbm, ⟨2, _⟩ => ⟨S4096x128, .f32⟩
  | .local _ .vmem, ⟨0, _⟩ => ⟨S256x4096, .f32⟩
  | .local _ .vmem, ⟨1, _⟩ => ⟨S4096x128, .f32⟩
  | .local _ .vmem, ⟨2, _⟩ => ⟨S4096x128, .f32⟩
  | .local _ .vmem, ⟨3, _⟩ => ⟨S3x2x128x4096, .f32⟩
  | .local _ .vmem, ⟨4, _⟩ => ⟨S3x2x128x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 3 51 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27 : BitVec 32 := 1#32
  let v30 : BitVec 32 := Scalar.muli v24 c1_i32_27
  let v31 : BitVec 32 := Scalar.addi c0_i32_28 v30
  v31.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_41 : BitVec 32 := 1#32
  let v39 : BitVec 32 := Scalar.muli v13 c1_i32_41
  let v40 : BitVec 32 := Scalar.addi c0_i32_42 v39
  v40.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_55 : BitVec 32 := 1#32
  let v48 : BitVec 32 := Scalar.muli v24 c1_i32_55
  let v49 : BitVec 32 := Scalar.addi c0_i32_56 v48
  v49.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_68 : BitVec 32 := 1#32
  let v57 : BitVec 32 := Scalar.muli v13 c1_i32_68
  let v58 : BitVec 32 := Scalar.addi c0_i32_69 v57
  v58.toNat
def k0_off1 (d0 : Dev nD) (c0_i32_77 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v71 : BitVec 32 := Scalar.muli v2 c256_i32
  let v72 : BitVec 32 := Scalar.addi v71 c0_i32_77
  let v73 : Index := Scalar.indexCast v72
  let c0_78 : Index := 0#32
  ![v73.toNat, 0]
def k0_dev7 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_87 : BitVec 32 := 1#32
  let v75 : BitVec 32 := Scalar.muli v24 c1_i32_87
  let v76 : BitVec 32 := Scalar.addi c0_i32_88 v75
  v76.toNat
def k0_dev8 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_100 : BitVec 32 := 1#32
  let v84 : BitVec 32 := Scalar.muli v13 c1_i32_100
  let v85 : BitVec 32 := Scalar.addi c0_i32_101 v84
  v85.toNat
def k0_dev9 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_114 : BitVec 32 := 1#32
  let v93 : BitVec 32 := Scalar.muli v24 c1_i32_114
  let v94 : BitVec 32 := Scalar.addi c0_i32_115 v93
  v94.toNat
def k0_dev10 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_127 : BitVec 32 := 1#32
  let v102 : BitVec 32 := Scalar.muli v13 c1_i32_127
  let v103 : BitVec 32 := Scalar.addi c0_i32_128 v102
  v103.toNat
def k0_dev11 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_141 : BitVec 32 := 1#32
  let v120 : BitVec 32 := Scalar.muli v13 c1_i32_141
  let v121 : BitVec 32 := Scalar.addi c0_i32_142 v120
  v121.toNat
def k0_dev12 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_144 : BitVec 32 := 1#32
  let v122 : BitVec 32 := Scalar.muli v24 c1_i32_144
  let v123 : BitVec 32 := Scalar.addi c0_i32_145 v122
  v123.toNat
def k0_dev13 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_292 : BitVec 32 := 1#32
  let v180 : BitVec 32 := Scalar.muli v24 c1_i32_292
  let v181 : BitVec 32 := Scalar.addi c0_i32_293 v180
  v181.toNat
def k0_dev14 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_308 : BitVec 32 := 1#32
  let v190 : BitVec 32 := Scalar.muli v13 c1_i32_308
  let v191 : BitVec 32 := Scalar.addi c0_i32_309 v190
  v191.toNat
def k0_dev15 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_356 : BitVec 32 := 1#32
  let v216 : BitVec 32 := Scalar.muli v24 c1_i32_356
  let v217 : BitVec 32 := Scalar.addi c0_i32_357 v216
  v217.toNat
def k0_dev16 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_372 : BitVec 32 := 1#32
  let v226 : BitVec 32 := Scalar.muli v13 c1_i32_372
  let v227 : BitVec 32 := Scalar.addi c0_i32_373 v226
  v227.toNat
def k0_off2 (d0 : Dev nD) (c1_i32_378 : BitVec 32) (c0_i32_392 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v236 : BitVec 32 := Scalar.subi v2 c1_i32_378
  let c16_i32_379 : BitVec 32 := 16#32
  let c0_i32_380 : BitVec 32 := 0#32
  let v237 : BitVec 1 := Scalar.cmpi .eq c16_i32_379 c0_i32_380
  let c1_i32_381 : BitVec 32 := 1#32
  let v238 : BitVec 32 := Scalar.select v237 c1_i32_381 c16_i32_379
  let v239 : BitVec 32 := Scalar.remsi v236 v238
  let c0_i32_383 : BitVec 32 := 0#32
  let v241 : BitVec 1 := Scalar.cmpi .slt v239 c0_i32_383
  let c0_i32_384 : BitVec 32 := 0#32
  let v242 : BitVec 1 := Scalar.cmpi .slt v238 c0_i32_384
  let v243 : BitVec 1 := Scalar.xori v241 v242
  let c0_i32_382 : BitVec 32 := 0#32
  let v240 : BitVec 1 := Scalar.cmpi .ne v239 c0_i32_382
  let v244 : BitVec 1 := Scalar.andi v243 v240
  let v245 : BitVec 32 := Scalar.addi v239 v238
  let v246 : BitVec 32 := Scalar.select v244 v245 v239
  let c256_i32_391 : BitVec 32 := 256#32
  let v252 : BitVec 32 := Scalar.muli v246 c256_i32_391
  let v253 : BitVec 32 := Scalar.addi v252 c0_i32_392
  let v254 : Index := Scalar.indexCast v253
  let c0_393 : Index := 0#32
  ![v254.toNat, 0]
def k0_off3 (d0 : Dev nD) (c1_i32_394 : BitVec 32) (c0_i32_409 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v256 : BitVec 32 := Scalar.addi v2 c1_i32_394
  let c16_i32_395 : BitVec 32 := 16#32
  let c0_i32_396 : BitVec 32 := 0#32
  let v257 : BitVec 1 := Scalar.cmpi .eq c16_i32_395 c0_i32_396
  let c1_i32_397 : BitVec 32 := 1#32
  let v258 : BitVec 32 := Scalar.select v257 c1_i32_397 c16_i32_395
  let v259 : BitVec 32 := Scalar.remsi v256 v258
  let c0_i32_399 : BitVec 32 := 0#32
  let v261 : BitVec 1 := Scalar.cmpi .slt v259 c0_i32_399
  let c0_i32_400 : BitVec 32 := 0#32
  let v262 : BitVec 1 := Scalar.cmpi .slt v258 c0_i32_400
  let v263 : BitVec 1 := Scalar.xori v261 v262
  let c0_i32_398 : BitVec 32 := 0#32
  let v260 : BitVec 1 := Scalar.cmpi .ne v259 c0_i32_398
  let v264 : BitVec 1 := Scalar.andi v263 v260
  let v265 : BitVec 32 := Scalar.addi v259 v258
  let v266 : BitVec 32 := Scalar.select v264 v265 v259
  let c256_i32_408 : BitVec 32 := 256#32
  let v272 : BitVec 32 := Scalar.muli v266 c256_i32_408
  let v273 : BitVec 32 := Scalar.addi v272 c0_i32_409
  let v274 : Index := Scalar.indexCast v273
  let c0_410 : Index := 0#32
  ![v274.toNat, 0]
def k0_dev17 (d0 : Dev nD) : Nat :=
  let c0_i32_454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_453 : BitVec 32 := 1#32
  let v292 : BitVec 32 := Scalar.muli v24 c1_i32_453
  let v293 : BitVec 32 := Scalar.addi c0_i32_454 v292
  v293.toNat
def k0_dev18 (d0 : Dev nD) : Nat :=
  let c0_i32_470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_469 : BitVec 32 := 1#32
  let v302 : BitVec 32 := Scalar.muli v13 c1_i32_469
  let v303 : BitVec 32 := Scalar.addi c0_i32_470 v302
  v303.toNat
def k0_dev19 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_517 : BitVec 32 := 1#32
  let v328 : BitVec 32 := Scalar.muli v24 c1_i32_517
  let v329 : BitVec 32 := Scalar.addi c0_i32_518 v328
  v329.toNat
def k0_dev20 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_533 : BitVec 32 := 1#32
  let v338 : BitVec 32 := Scalar.muli v13 c1_i32_533
  let v339 : BitVec 32 := Scalar.addi c0_i32_534 v338
  v339.toNat
def k0_dev21 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_574 : BitVec 32 := 1#32
  let v388 : BitVec 32 := Scalar.muli v13 c1_i32_574
  let v389 : BitVec 32 := Scalar.addi c0_i32_575 v388
  v389.toNat
def k0_dev22 (d0 : Dev nD) : Nat :=
  let c0_i32_578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_577 : BitVec 32 := 1#32
  let v390 : BitVec 32 := Scalar.muli v24 c1_i32_577
  let v391 : BitVec 32 := Scalar.addi c0_i32_578 v390
  v391.toNat
def k0_dev23 (d0 : Dev nD) : Nat :=
  let c0_i32_742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_741 : BitVec 32 := 1#32
  let v456 : BitVec 32 := Scalar.muli v24 c1_i32_741
  let v457 : BitVec 32 := Scalar.addi c0_i32_742 v456
  v457.toNat
def k0_dev24 (d0 : Dev nD) : Nat :=
  let c0_i32_758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_757 : BitVec 32 := 1#32
  let v466 : BitVec 32 := Scalar.muli v13 c1_i32_757
  let v467 : BitVec 32 := Scalar.addi c0_i32_758 v466
  v467.toNat
def k0_dev25 (d0 : Dev nD) : Nat :=
  let c0_i32_806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_805 : BitVec 32 := 1#32
  let v492 : BitVec 32 := Scalar.muli v24 c1_i32_805
  let v493 : BitVec 32 := Scalar.addi c0_i32_806 v492
  v493.toNat
def k0_dev26 (d0 : Dev nD) : Nat :=
  let c0_i32_822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_821 : BitVec 32 := 1#32
  let v502 : BitVec 32 := Scalar.muli v13 c1_i32_821
  let v503 : BitVec 32 := Scalar.addi c0_i32_822 v502
  v503.toNat
def k0_dev27 (d0 : Dev nD) : Nat :=
  let c0_i32_903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_902 : BitVec 32 := 1#32
  let v568 : BitVec 32 := Scalar.muli v24 c1_i32_902
  let v569 : BitVec 32 := Scalar.addi c0_i32_903 v568
  v569.toNat
def k0_dev28 (d0 : Dev nD) : Nat :=
  let c0_i32_919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_918 : BitVec 32 := 1#32
  let v578 : BitVec 32 := Scalar.muli v13 c1_i32_918
  let v579 : BitVec 32 := Scalar.addi c0_i32_919 v578
  v579.toNat
def k0_dev29 (d0 : Dev nD) : Nat :=
  let c0_i32_967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_966 : BitVec 32 := 1#32
  let v604 : BitVec 32 := Scalar.muli v24 c1_i32_966
  let v605 : BitVec 32 := Scalar.addi c0_i32_967 v604
  v605.toNat
def k0_dev30 (d0 : Dev nD) : Nat :=
  let c0_i32_983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_982 : BitVec 32 := 1#32
  let v614 : BitVec 32 := Scalar.muli v13 c1_i32_982
  let v615 : BitVec 32 := Scalar.addi c0_i32_983 v614
  v615.toNat
def k0_dev31 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1023 : BitVec 32 := 1#32
  let v664 : BitVec 32 := Scalar.muli v13 c1_i32_1023
  let v665 : BitVec 32 := Scalar.addi c0_i32_1024 v664
  v665.toNat
def k0_dev32 (d0 : Dev nD) : Nat :=
  let c0_i32_1027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1026 : BitVec 32 := 1#32
  let v666 : BitVec 32 := Scalar.muli v24 c1_i32_1026
  let v667 : BitVec 32 := Scalar.addi c0_i32_1027 v666
  v667.toNat
def k0_dev33 (d0 : Dev nD) : Nat :=
  let c0_i32_1194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1193 : BitVec 32 := 1#32
  let v732 : BitVec 32 := Scalar.muli v24 c1_i32_1193
  let v733 : BitVec 32 := Scalar.addi c0_i32_1194 v732
  v733.toNat
def k0_dev34 (d0 : Dev nD) : Nat :=
  let c0_i32_1210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1209 : BitVec 32 := 1#32
  let v742 : BitVec 32 := Scalar.muli v13 c1_i32_1209
  let v743 : BitVec 32 := Scalar.addi c0_i32_1210 v742
  v743.toNat
def k0_dev35 (d0 : Dev nD) : Nat :=
  let c0_i32_1258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1257 : BitVec 32 := 1#32
  let v768 : BitVec 32 := Scalar.muli v24 c1_i32_1257
  let v769 : BitVec 32 := Scalar.addi c0_i32_1258 v768
  v769.toNat
def k0_dev36 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1273 : BitVec 32 := 1#32
  let v778 : BitVec 32 := Scalar.muli v13 c1_i32_1273
  let v779 : BitVec 32 := Scalar.addi c0_i32_1274 v778
  v779.toNat
def k0_dev37 (d0 : Dev nD) : Nat :=
  let c0_i32_1356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1355 : BitVec 32 := 1#32
  let v844 : BitVec 32 := Scalar.muli v24 c1_i32_1355
  let v845 : BitVec 32 := Scalar.addi c0_i32_1356 v844
  v845.toNat
def k0_dev38 (d0 : Dev nD) : Nat :=
  let c0_i32_1372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1371 : BitVec 32 := 1#32
  let v854 : BitVec 32 := Scalar.muli v13 c1_i32_1371
  let v855 : BitVec 32 := Scalar.addi c0_i32_1372 v854
  v855.toNat
def k0_dev39 (d0 : Dev nD) : Nat :=
  let c0_i32_1420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1419 : BitVec 32 := 1#32
  let v880 : BitVec 32 := Scalar.muli v24 c1_i32_1419
  let v881 : BitVec 32 := Scalar.addi c0_i32_1420 v880
  v881.toNat
def k0_dev40 (d0 : Dev nD) : Nat :=
  let c0_i32_1436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1435 : BitVec 32 := 1#32
  let v890 : BitVec 32 := Scalar.muli v13 c1_i32_1435
  let v891 : BitVec 32 := Scalar.addi c0_i32_1436 v890
  v891.toNat
def k0_dev41 (d0 : Dev nD) : Nat :=
  let c0_i32_1477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1476 : BitVec 32 := 1#32
  let v940 : BitVec 32 := Scalar.muli v13 c1_i32_1476
  let v941 : BitVec 32 := Scalar.addi c0_i32_1477 v940
  v941.toNat
def k0_dev42 (d0 : Dev nD) : Nat :=
  let c0_i32_1480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1479 : BitVec 32 := 1#32
  let v942 : BitVec 32 := Scalar.muli v24 c1_i32_1479
  let v943 : BitVec 32 := Scalar.addi c0_i32_1480 v942
  v943.toNat
def k0_dev43 (d0 : Dev nD) : Nat :=
  let c0_i32_1648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1647 : BitVec 32 := 1#32
  let v1008 : BitVec 32 := Scalar.muli v24 c1_i32_1647
  let v1009 : BitVec 32 := Scalar.addi c0_i32_1648 v1008
  v1009.toNat
def k0_dev44 (d0 : Dev nD) : Nat :=
  let c0_i32_1664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1663 : BitVec 32 := 1#32
  let v1018 : BitVec 32 := Scalar.muli v13 c1_i32_1663
  let v1019 : BitVec 32 := Scalar.addi c0_i32_1664 v1018
  v1019.toNat
def k0_dev45 (d0 : Dev nD) : Nat :=
  let c0_i32_1712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1711 : BitVec 32 := 1#32
  let v1044 : BitVec 32 := Scalar.muli v24 c1_i32_1711
  let v1045 : BitVec 32 := Scalar.addi c0_i32_1712 v1044
  v1045.toNat
def k0_dev46 (d0 : Dev nD) : Nat :=
  let c0_i32_1728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1727 : BitVec 32 := 1#32
  let v1054 : BitVec 32 := Scalar.muli v13 c1_i32_1727
  let v1055 : BitVec 32 := Scalar.addi c0_i32_1728 v1054
  v1055.toNat
def k0_dev47 (d0 : Dev nD) : Nat :=
  let c0_i32_1809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1808 : BitVec 32 := 1#32
  let v1120 : BitVec 32 := Scalar.muli v24 c1_i32_1808
  let v1121 : BitVec 32 := Scalar.addi c0_i32_1809 v1120
  v1121.toNat
def k0_dev48 (d0 : Dev nD) : Nat :=
  let c0_i32_1825 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1824 : BitVec 32 := 1#32
  let v1130 : BitVec 32 := Scalar.muli v13 c1_i32_1824
  let v1131 : BitVec 32 := Scalar.addi c0_i32_1825 v1130
  v1131.toNat
def k0_dev49 (d0 : Dev nD) : Nat :=
  let c0_i32_1873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1872 : BitVec 32 := 1#32
  let v1156 : BitVec 32 := Scalar.muli v24 c1_i32_1872
  let v1157 : BitVec 32 := Scalar.addi c0_i32_1873 v1156
  v1157.toNat
def k0_dev50 (d0 : Dev nD) : Nat :=
  let c0_i32_1889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1888 : BitVec 32 := 1#32
  let v1166 : BitVec 32 := Scalar.muli v13 c1_i32_1888
  let v1167 : BitVec 32 := Scalar.addi c0_i32_1889 v1166
  v1167.toNat
def k0_dev51 (d0 : Dev nD) : Nat :=
  let c0_i32_1930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1929 : BitVec 32 := 1#32
  let v1216 : BitVec 32 := Scalar.muli v13 c1_i32_1929
  let v1217 : BitVec 32 := Scalar.addi c0_i32_1930 v1216
  v1217.toNat
def k0_dev52 (d0 : Dev nD) : Nat :=
  let c0_i32_1933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1932 : BitVec 32 := 1#32
  let v1218 : BitVec 32 := Scalar.muli v24 c1_i32_1932
  let v1219 : BitVec 32 := Scalar.addi c0_i32_1933 v1218
  v1219.toNat
def k0_dev53 (d0 : Dev nD) : Nat :=
  let c0_i32_2101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2100 : BitVec 32 := 1#32
  let v1284 : BitVec 32 := Scalar.muli v24 c1_i32_2100
  let v1285 : BitVec 32 := Scalar.addi c0_i32_2101 v1284
  v1285.toNat
def k0_dev54 (d0 : Dev nD) : Nat :=
  let c0_i32_2117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2116 : BitVec 32 := 1#32
  let v1294 : BitVec 32 := Scalar.muli v13 c1_i32_2116
  let v1295 : BitVec 32 := Scalar.addi c0_i32_2117 v1294
  v1295.toNat
def k0_dev55 (d0 : Dev nD) : Nat :=
  let c0_i32_2165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2164 : BitVec 32 := 1#32
  let v1320 : BitVec 32 := Scalar.muli v24 c1_i32_2164
  let v1321 : BitVec 32 := Scalar.addi c0_i32_2165 v1320
  v1321.toNat
def k0_dev56 (d0 : Dev nD) : Nat :=
  let c0_i32_2181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2180 : BitVec 32 := 1#32
  let v1330 : BitVec 32 := Scalar.muli v13 c1_i32_2180
  let v1331 : BitVec 32 := Scalar.addi c0_i32_2181 v1330
  v1331.toNat
def k0_dev57 (d0 : Dev nD) : Nat :=
  let c0_i32_2262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2261 : BitVec 32 := 1#32
  let v1396 : BitVec 32 := Scalar.muli v24 c1_i32_2261
  let v1397 : BitVec 32 := Scalar.addi c0_i32_2262 v1396
  v1397.toNat
def k0_dev58 (d0 : Dev nD) : Nat :=
  let c0_i32_2278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2277 : BitVec 32 := 1#32
  let v1406 : BitVec 32 := Scalar.muli v13 c1_i32_2277
  let v1407 : BitVec 32 := Scalar.addi c0_i32_2278 v1406
  v1407.toNat
def k0_dev59 (d0 : Dev nD) : Nat :=
  let c0_i32_2326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2325 : BitVec 32 := 1#32
  let v1432 : BitVec 32 := Scalar.muli v24 c1_i32_2325
  let v1433 : BitVec 32 := Scalar.addi c0_i32_2326 v1432
  v1433.toNat
def k0_dev60 (d0 : Dev nD) : Nat :=
  let c0_i32_2342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2341 : BitVec 32 := 1#32
  let v1442 : BitVec 32 := Scalar.muli v13 c1_i32_2341
  let v1443 : BitVec 32 := Scalar.addi c0_i32_2342 v1442
  v1443.toNat
def k0_dev61 (d0 : Dev nD) : Nat :=
  let c0_i32_2383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2382 : BitVec 32 := 1#32
  let v1492 : BitVec 32 := Scalar.muli v13 c1_i32_2382
  let v1493 : BitVec 32 := Scalar.addi c0_i32_2383 v1492
  v1493.toNat
def k0_dev62 (d0 : Dev nD) : Nat :=
  let c0_i32_2386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2385 : BitVec 32 := 1#32
  let v1494 : BitVec 32 := Scalar.muli v24 c1_i32_2385
  let v1495 : BitVec 32 := Scalar.addi c0_i32_2386 v1494
  v1495.toNat
def k0_dev63 (d0 : Dev nD) : Nat :=
  let c0_i32_2554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2553 : BitVec 32 := 1#32
  let v1560 : BitVec 32 := Scalar.muli v24 c1_i32_2553
  let v1561 : BitVec 32 := Scalar.addi c0_i32_2554 v1560
  v1561.toNat
def k0_dev64 (d0 : Dev nD) : Nat :=
  let c0_i32_2570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2569 : BitVec 32 := 1#32
  let v1570 : BitVec 32 := Scalar.muli v13 c1_i32_2569
  let v1571 : BitVec 32 := Scalar.addi c0_i32_2570 v1570
  v1571.toNat
def k0_dev65 (d0 : Dev nD) : Nat :=
  let c0_i32_2618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2617 : BitVec 32 := 1#32
  let v1596 : BitVec 32 := Scalar.muli v24 c1_i32_2617
  let v1597 : BitVec 32 := Scalar.addi c0_i32_2618 v1596
  v1597.toNat
def k0_dev66 (d0 : Dev nD) : Nat :=
  let c0_i32_2634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2633 : BitVec 32 := 1#32
  let v1606 : BitVec 32 := Scalar.muli v13 c1_i32_2633
  let v1607 : BitVec 32 := Scalar.addi c0_i32_2634 v1606
  v1607.toNat
def k0_dev67 (d0 : Dev nD) : Nat :=
  let c0_i32_2715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2714 : BitVec 32 := 1#32
  let v1672 : BitVec 32 := Scalar.muli v24 c1_i32_2714
  let v1673 : BitVec 32 := Scalar.addi c0_i32_2715 v1672
  v1673.toNat
def k0_dev68 (d0 : Dev nD) : Nat :=
  let c0_i32_2731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2730 : BitVec 32 := 1#32
  let v1682 : BitVec 32 := Scalar.muli v13 c1_i32_2730
  let v1683 : BitVec 32 := Scalar.addi c0_i32_2731 v1682
  v1683.toNat
def k0_dev69 (d0 : Dev nD) : Nat :=
  let c0_i32_2779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2778 : BitVec 32 := 1#32
  let v1708 : BitVec 32 := Scalar.muli v24 c1_i32_2778
  let v1709 : BitVec 32 := Scalar.addi c0_i32_2779 v1708
  v1709.toNat
def k0_dev70 (d0 : Dev nD) : Nat :=
  let c0_i32_2795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2794 : BitVec 32 := 1#32
  let v1718 : BitVec 32 := Scalar.muli v13 c1_i32_2794
  let v1719 : BitVec 32 := Scalar.addi c0_i32_2795 v1718
  v1719.toNat
def k0_dev71 (d0 : Dev nD) : Nat :=
  let c0_i32_2836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2835 : BitVec 32 := 1#32
  let v1768 : BitVec 32 := Scalar.muli v13 c1_i32_2835
  let v1769 : BitVec 32 := Scalar.addi c0_i32_2836 v1768
  v1769.toNat
def k0_dev72 (d0 : Dev nD) : Nat :=
  let c0_i32_2839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2838 : BitVec 32 := 1#32
  let v1770 : BitVec 32 := Scalar.muli v24 c1_i32_2838
  let v1771 : BitVec 32 := Scalar.addi c0_i32_2839 v1770
  v1771.toNat
def k0_dev73 (d0 : Dev nD) : Nat :=
  let c0_i32_3007 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3006 : BitVec 32 := 1#32
  let v1836 : BitVec 32 := Scalar.muli v24 c1_i32_3006
  let v1837 : BitVec 32 := Scalar.addi c0_i32_3007 v1836
  v1837.toNat
def k0_dev74 (d0 : Dev nD) : Nat :=
  let c0_i32_3055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3054 : BitVec 32 := 1#32
  let v1862 : BitVec 32 := Scalar.muli v24 c1_i32_3054
  let v1863 : BitVec 32 := Scalar.addi c0_i32_3055 v1862
  v1863.toNat
def k0_dev75 (d0 : Dev nD) : Nat :=
  let c0_i32_3136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3135 : BitVec 32 := 1#32
  let v1928 : BitVec 32 := Scalar.muli v13 c1_i32_3135
  let v1929 : BitVec 32 := Scalar.addi c0_i32_3136 v1928
  v1929.toNat
def k0_dev76 (d0 : Dev nD) : Nat :=
  let c0_i32_3184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3183 : BitVec 32 := 1#32
  let v1954 : BitVec 32 := Scalar.muli v13 c1_i32_3183
  let v1955 : BitVec 32 := Scalar.addi c0_i32_3184 v1954
  v1955.toNat
def k0_off4 (d0 : Dev nD) (c0_i32_3306 : BitVec 32) (c0_i32_3307 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v2028 : BitVec 32 := Scalar.addi v2 c8_i32
  let c16_i32_3283 : BitVec 32 := 16#32
  let c0_i32_3284 : BitVec 32 := 0#32
  let v2029 : BitVec 1 := Scalar.cmpi .eq c16_i32_3283 c0_i32_3284
  let c1_i32_3285 : BitVec 32 := 1#32
  let v2030 : BitVec 32 := Scalar.select v2029 c1_i32_3285 c16_i32_3283
  let v2031 : BitVec 32 := Scalar.remsi v2028 v2030
  let c0_i32_3287 : BitVec 32 := 0#32
  let v2033 : BitVec 1 := Scalar.cmpi .slt v2031 c0_i32_3287
  let c0_i32_3288 : BitVec 32 := 0#32
  let v2034 : BitVec 1 := Scalar.cmpi .slt v2030 c0_i32_3288
  let v2035 : BitVec 1 := Scalar.xori v2033 v2034
  let c0_i32_3286 : BitVec 32 := 0#32
  let v2032 : BitVec 1 := Scalar.cmpi .ne v2031 c0_i32_3286
  let v2036 : BitVec 1 := Scalar.andi v2035 v2032
  let v2037 : BitVec 32 := Scalar.addi v2031 v2030
  let v2038 : BitVec 32 := Scalar.select v2036 v2037 v2031
  let c256_i32_3305 : BitVec 32 := 256#32
  let v2047 : BitVec 32 := Scalar.muli v2038 c256_i32_3305
  let v2048 : BitVec 32 := Scalar.addi v2047 c0_i32_3306
  let v2049 : BitVec 32 := Scalar.addi v2048 c0_i32_3307
  let v2055 : Index := Scalar.indexCast v2049
  let c0_3315 : Index := 0#32
  ![v2055.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ring.lean ====
/- The kernel's body, rewritten as a short program over the hop number, the direction, the 128-row part
   and the 64-row piece, with one theorem that the printed body is that program.

   Names. `c` is the device. There are two directions: `.r` (data travels to the right neighbour) and
   `.l` (to the left one). `nbr δ c` is the device that `c` sends to in direction `δ`, `prv δ c` the one
   it receives from. A buffer has three slots `k`, each of two parts `p` of 128 rows, each of two pieces
   `s` of 64 rows. -/
module

public import proofs.«01_k».proof.Proof.Gen.KernelIdeal
public import proofs.«01_k».proof.Proof.Gen.KernelIdeal.Skeleton

@[expose] public section

noncomputable section

namespace Cert.RingProof

open Cert.KernelIdeal Cert.KernelIdeal.Gen
open Idealize.ShloMosaic Idealize.SL.Sem

/-- The direction in which a block travels. -/
inductive Dir | r | l
  deriving DecidableEq, Inhabited

instance : Fintype Dir := ⟨{.r, .l}, fun d => by cases d <;> decide⟩

theorem nD_eq : nD = 16 := rfl

set_option backward.proofsInPublic true in
/-- The device `n` to the right of `c`. -/
def rightN (c : Dev nD) (n : ℕ) : Dev nD := ⟨(c.val + n) % 16, Nat.mod_lt _ (by decide)⟩

set_option backward.proofsInPublic true in
/-- The device `n` to the left of `c`, for `n ≤ 16`. -/
def leftN (c : Dev nD) (n : ℕ) : Dev nD := ⟨(c.val + (16 - n)) % 16, Nat.mod_lt _ (by decide)⟩

/-- The neighbour that `c` sends to in direction `δ`, -/
def nbr : Dir → Dev nD → Dev nD
  | .r, c => rightN c 1
  | .l, c => leftN c 1

/-- the neighbour that `c` receives from in direction `δ`, -/
def prv : Dir → Dev nD → Dev nD
  | .r, c => leftN c 1
  | .l, c => rightN c 1

/-- and the device whose block reaches `c` after `n` hops in direction `δ`. -/
def org : Dir → Dev nD → ℕ → Dev nD
  | .r, c, n => leftN c n
  | .l, c, n => rightN c n

theorem prv_nbr : ∀ (δ : Dir) (c : Dev nD), prv δ (nbr δ c) = c := by decide
theorem nbr_prv : ∀ (δ : Dir) (c : Dev nD), nbr δ (prv δ c) = c := by decide
theorem org_zero : ∀ (δ : Dir) (c : Dev nD), org δ c 0 = c := by decide
theorem org_nbr : ∀ (δ : Dir) (c : Dev nD) (h : Fin 8), org δ (nbr δ c) (h.val + 1) = org δ c h.val := by decide +kernel

/-! ## Slots, pieces, semaphores -/

set_option backward.proofsInPublic true in
/-- The slot that number `n` falls into. -/
def sl (n : ℕ) : Fin 3 := ⟨n % 3, Nat.mod_lt _ (by decide)⟩

theorem inbP : ∀ (k : Fin 3) (p s : Fin 2), ∀ a, (![k.val, p.val, 64 * s.val, 0] : Fin 4 → Nat) a + S1x1x64x4096.size a ≤ S3x2x128x4096.size a := by decide
theorem inbF : ∀ (k : Fin 3) (p : Fin 2), ∀ a, (![k.val, p.val, 0, 0] : Fin 4 → Nat) a + S1x1x128x4096.size a ≤ S3x2x128x4096.size a := by decide
theorem inbX : ∀ (p s : Fin 2), ∀ a, (![128 * p.val + 64 * s.val, 0] : Fin 2 → Nat) a + S64x4096.size a ≤ S256x4096.size a := by decide
theorem inbXF : ∀ (p : Fin 2), ∀ a, (![128 * p.val, 0] : Fin 2 → Nat) a + S128x4096.size a ≤ S256x4096.size a := by decide
theorem inbS : ∀ (k : Fin 3) (p s : Fin 2), ∀ a, (![k.val, p.val, s.val] : Fin 3 → Nat) a + S1x1x1.size a ≤ S3x2x2.size a := by decide
theorem inbW : ∀ a, (![0, 0] : Fin 2 → Nat) a + S4096x128.size a ≤ S4096x128.size a := by decide

/-- The receive buffer of a direction, -/
def bufM : Dir → Memref sig .tc .vmem S3x2x128x4096 .f32
  | .r => Memref.whole cc0_scratch0
  | .l => Memref.whole cc0_scratch1
/-- its send semaphores, -/
def sendA : Dir → DmaSems sig S3x2x2
  | .r => cc0_scratch2
  | .l => cc0_scratch4
/-- its receive semaphores, -/
def recvA : Dir → DmaSems sig S3x2x2
  | .r => cc0_scratch3
  | .l => cc0_scratch5
/-- and its credit semaphore. -/
def creditS : Dir → Sem sig
  | .r => cc0_scratch6.sem
  | .l => cc0_scratch7.sem
/-- The barrier semaphore. -/
def barS : Sem sig := (SemArray.scalar (sig.barrier 0 rfl) : Sems sig S_).sem

/-- The send semaphore of a piece, -/
def sSem (δ : Dir) (k : Fin 3) (p s : Fin 2) : DmaSem sig :=
  (((sendA δ).slice (Rect.unit (s := S3x2x2) ![k.val, p.val, s.val] S1x1x1.size (inbS k p s))).squeeze S_ squeezes_S1x1x1_S_).sem
/-- and its receive semaphore. -/
def rSem (δ : Dir) (k : Fin 3) (p s : Fin 2) : DmaSem sig :=
  (((recvA δ).slice (Rect.unit (s := S3x2x2) ![k.val, p.val, s.val] S1x1x1.size (inbS k p s))).squeeze S_ squeezes_S1x1x1_S_).sem

/-- A piece of 64 rows of a slot of a receive buffer. -/
def pieceM (δ : Dir) (k : Fin 3) (p s : Fin 2) : Memref sig .tc .vmem S64x4096 .f32 :=
  ((bufM δ).slice (Rect.unit (s := S3x2x128x4096) ![k.val, p.val, 64 * s.val, 0] S1x1x64x4096.size (inbP k p s)) (fun _ => rfl)).squeeze S64x4096 squeezes_S1x1x64x4096_S64x4096

/-- A piece of 64 rows of the device's own block. -/
def xpM (x : Memref sig .tc .vmem S256x4096 .f32) (p s : Fin 2) : Memref sig .tc .vmem S64x4096 .f32 :=
  x.slice (Rect.unit (s := S256x4096) ![128 * p.val + 64 * s.val, 0] S64x4096.size (inbX p s)) (fun _ => rfl)

/-! ## The program -/

variable {F : FTy → Type} [FloatOps F]

/-- The type of a piece of the kernel's body. -/
abbrev PT (α : Type) := Prog (TpuEff nD τ sig (Elt F) Λ₀ .tc) α

/-- The product of a 128-row part with the device's columns, -/
def mm128 (v : Vec F S128x4096 .f32) (w : Vec F S4096x128 .f32) : FVec F S128x128 .f32 :=
  matmul dot_S128x4096_S4096x128_S128x128_1_0_0_1_n_n none v (shapeCast S4096x128 w shapeCasts_S4096x128_S4096x128) (constant S128x128 .f32 0x00000000#32)
/-- and of a 64-row piece. -/
def mm64 (v : Vec F S64x4096 .f32) (w : Vec F S4096x128 .f32) : FVec F S64x128 .f32 :=
  matmul dot_S64x4096_S4096x128_S64x128_1_0_0_1_n_n none v (shapeCast S4096x128 w shapeCasts_S4096x128_S4096x128) (constant S64x128 .f32 0x00000000#32)

section
variable (x : Memref sig .tc .vmem S256x4096 .f32) (w o : Memref sig .tc .vmem S4096x128 .f32)

/-- Start the copy of a piece of the device's own block to `dst`, hop 0. -/
def send0 (dst : Dev nD) (δ : Dir) (p s : Fin 2) : PT (F := F) PUnit :=
  Prog.lift (.enqueueDma (xpM x p s) (.remote (Dev.tc dst) (pieceM δ 1 p s) (.dma (sSem δ 1 p s)) (by cases δ <;> rfl)) (.dma (rSem δ 1 p s))
    (View.wordExact_bits rfl) ((View.wordExact_bits rfl).reshape _ _) ⟨⟨rfl, Or.inl rfl⟩, trivial⟩)

/-- Start the copy of the piece in slot `k` to slot `k'` of `dst`, a later hop. -/
def sendN (dst : Dev nD) (δ : Dir) (k k' : Fin 3) (p s : Fin 2) : PT (F := F) PUnit :=
  Prog.lift (.enqueueDma (pieceM δ k p s) (.remote (Dev.tc dst) (pieceM δ k' p s) (.dma (sSem δ k p s)) (by cases δ <;> rfl)) (.dma (rSem δ k' p s))
    ((View.wordExact_bits rfl).reshape _ _) ((View.wordExact_bits rfl).reshape _ _) ⟨⟨rfl, Or.inl rfl⟩, trivial⟩)

/-- Wait for the piece of slot `k` to arrive. -/
def waitRecv (δ : Dir) (k : Fin 3) (p s : Fin 2) : PT (F := F) PUnit :=
  Prog.lift (.waitDma2 (rSem δ k p s) (pieceM δ k p s) (pieceM δ k p s) ((View.wordExact_bits rfl).reshape _ _) ((View.wordExact_bits rfl).reshape _ _))

/-- Wait for the copy of a piece of the own block to have left, -/
def waitSend0 (δ : Dir) (p s : Fin 2) : PT (F := F) PUnit :=
  Prog.lift (.waitDma2 (sSem δ 1 p s) (pieceM δ 1 p s) (xpM x p s) ((View.wordExact_bits rfl).reshape _ _) (View.wordExact_bits rfl))

/-- and for that of the piece of slot `k`. -/
def waitSendN (δ : Dir) (k k' : Fin 3) (p s : Fin 2) : PT (F := F) PUnit :=
  Prog.lift (.waitDma2 (sSem δ k p s) (pieceM δ k' p s) (pieceM δ k p s) ((View.wordExact_bits rfl).reshape _ _) ((View.wordExact_bits rfl).reshape _ _))

/-- Multiply a 128-row part by the device's columns and store the product at rows `off`. -/
def mulStore (off : Fin 2 → Nat) (inb : ∀ a, off a + S128x128.size a ≤ S4096x128.size a) (v : Vec F S128x4096 .f32) : PT (F := F) PUnit := do
  let b : Vec F S4096x128 .f32 ← Prog.lift (.load w (Rect.unit (s := S4096x128) ![0, 0] S4096x128.size inbW).toLoadRect (View.loadsAt_vmem h_S4096x128))
  let _d : Vec F S128x128 .f32 ← Prog.lift (.load o (Rect.unit (s := S4096x128) off S128x128.size inb).toLoadRect (View.loadsAt_vmem h_S128x128))
  Prog.lift (.store o (Rect.unit (s := S4096x128) off S128x128.size inb) (mm128 v b) Finset.univ (View.stores_vmem_bits_univ h_S128x128 rfl) (.inl rfl))

/-- The same for a 64-row piece. -/
def mulStore64 (off : Fin 2 → Nat) (inb : ∀ a, off a + S64x128.size a ≤ S4096x128.size a) (v : Vec F S64x4096 .f32) : PT (F := F) PUnit := do
  let b : Vec F S4096x128 .f32 ← Prog.lift (.load w (Rect.unit (s := S4096x128) ![0, 0] S4096x128.size inbW).toLoadRect (View.loadsAt_vmem h_S4096x128))
  let _d : Vec F S64x128 .f32 ← Prog.lift (.load o (Rect.unit (s := S4096x128) off S64x128.size inb).toLoadRect (View.loadsAt_vmem h_S64x128))
  Prog.lift (.store o (Rect.unit (s := S4096x128) off S64x128.size inb) (mm64 v b) Finset.univ (View.stores_vmem_bits_univ h_S64x128 rfl) (.inl rfl))

/-- The product of the own block's part `p`, -/
def gemmX (off : Fin 2 → Nat) (inb : ∀ a, off a + S128x128.size a ≤ S4096x128.size a) (p : Fin 2) : PT (F := F) PUnit := do
  let v : Vec F S128x4096 .f32 ← Prog.lift (.load x (Rect.unit (s := S256x4096) ![128 * p.val, 0] S128x4096.size (inbXF p)).toLoadRect (View.loadsAt_vmem h_S128x4096))
  mulStore w o off inb (shapeCast S128x4096 v shapeCasts_S128x4096_S128x4096)

/-- of an arrived part, -/
def gemmB (off : Fin 2 → Nat) (inb : ∀ a, off a + S128x128.size a ≤ S4096x128.size a) (δ : Dir) (k : Fin 3) (p : Fin 2) : PT (F := F) PUnit := do
  let v : Vec F S1x1x128x4096 .f32 ← Prog.lift (.load (bufM δ) (Rect.unit (s := S3x2x128x4096) ![k.val, p.val, 0, 0] S1x1x128x4096.size (inbF k p)).toLoadRect (View.loadsAt_vmem h_S1x1x128x4096))
  mulStore w o off inb (shapeCast S128x4096 v shapeCasts_S1x1x128x4096_S128x4096)

/-- and of an arrived piece. -/
def gemmP (off : Fin 2 → Nat) (inb : ∀ a, off a + S64x128.size a ≤ S4096x128.size a) (δ : Dir) (k : Fin 3) (p s : Fin 2) : PT (F := F) PUnit := do
  let v : Vec F S1x1x64x4096 .f32 ← Prog.lift (.load (bufM δ) (Rect.unit (s := S3x2x128x4096) ![k.val, p.val, 64 * s.val, 0] S1x1x64x4096.size (inbP k p s)).toLoadRect (View.loadsAt_vmem h_S1x1x64x4096))
  mulStore64 w o off inb (shapeCast S64x4096 v shapeCasts_S1x1x64x4096_S64x4096)

/-- The rows that hop `r + 1` of direction `δ` writes for part `p`. -/
def offB (c : Dev nD) : Dir → Fin 7 → Fin 2 → Fin 2 → Nat
  | .r, r, p => k0_off2 c (BitVec.ofNat 32 (1 + r.val)) (BitVec.ofNat 32 (128 * p.val))
  | .l, r, p => k0_off3 c (BitVec.ofNat 32 (1 + r.val)) (BitVec.ofNat 32 (128 * p.val))
theorem offB_inb (c : Dev nD) : ∀ (δ : Dir) (r : Fin 7) (p : Fin 2), ∀ a, offB c δ r p a + S128x128.size a ≤ S4096x128.size a
  | .r, r, p => k0_off2_inb c r p
  | .l, r, p => k0_off3_inb c r p

/-- Wait for piece `(p, s)` of both directions, hop `r + 1`. -/
def recvBoth (r : Fin 7) (p s : Fin 2) : PT (F := F) PUnit := do
  waitRecv .r (sl (r.val + 1)) p s
  waitRecv .l (sl (r.val + 1)) p s

/-- Pass piece `(p, s)` on in both directions; `T` is the table of the devices addressed. -/
def sendBoth (T : ℕ → Dev nD) (r : Fin 7) (p s : Fin 2) : PT (F := F) PUnit := do
  sendN (T (12 + 10 * r.val + 4 * p.val + 2 * s.val)) .r (sl (r.val + 1)) (sl (r.val + 2)) p s
  sendN (T (13 + 10 * r.val + 4 * p.val + 2 * s.val)) .l (sl (r.val + 1)) (sl (r.val + 2)) p s

/-- Multiply the parts `p` that arrived at hop `r + 1`. -/
def gemmBoth (c : Dev nD) (r : Fin 7) (p : Fin 2) : PT (F := F) PUnit := do
  gemmB w o (offB c .r r p) (offB_inb c .r r p) .r (sl (r.val + 1)) p
  gemmB w o (offB c .l r p) (offB_inb c .l r p) .l (sl (r.val + 1)) p

/-- Signal both credit semaphores, hop `h`. -/
def credits (T : ℕ → Dev nD) (h : ℕ) : PT (F := F) PUnit := do
  semSignalWord (T (10 + 10 * h)) (creditS .r) 1#32
  semSignalWord (T (11 + 10 * h)) (creditS .l) 1#32

/-- Wait for `n` credits of both directions. -/
def creditWait (n : BitVec 32) : PT (F := F) PUnit := do
  semWaitWord (creditS .r) n
  semWaitWord (creditS .l) n

/-- The part of hop `r + 1 < 7` after the credits have been waited for: part `p`. -/
def hopPart (T : ℕ → Dev nD) (c : Dev nD) (r : Fin 7) (p : Fin 2) : PT (F := F) PUnit := do
  recvBoth r p 0
  sendBoth T r p 0
  recvBoth r p 1
  sendBoth T r p 1
  gemmBoth w o c r p

/-- Wait for the copies of hop `r + 1` in one direction to have left. -/
def drain (r : Fin 7) (δ : Dir) : PT (F := F) PUnit := do
  waitSendN δ (sl (r.val + 1)) (sl (r.val + 2)) 0 0
  waitSendN δ (sl (r.val + 1)) (sl (r.val + 2)) 0 1
  waitSendN δ (sl (r.val + 1)) (sl (r.val + 2)) 1 0
  waitSendN δ (sl (r.val + 1)) (sl (r.val + 2)) 1 1

/-- A hop in the middle, without its wait for credits. -/
def hop (T : ℕ → Dev nD) (c : Dev nD) (r : Fin 7) : PT (F := F) PUnit := do
  hopPart w o T c r 0
  hopPart w o T c r 1
  credits T (r.val + 1)
  drain r .r
  drain r .l

/-- Hop 0: part `p` of the own block goes out both ways and is multiplied. -/
def hop0Part (T : ℕ → Dev nD) (c : Dev nD) (p : Fin 2) : PT (F := F) PUnit := do
  send0 x (T (2 + 4 * p.val)) .r p 0
  send0 x (T (3 + 4 * p.val)) .l p 0
  send0 x (T (4 + 4 * p.val)) .r p 1
  send0 x (T (5 + 4 * p.val)) .l p 1
  gemmX x w o (k0_off1 c (BitVec.ofNat 32 (128 * p.val))) (k0_off1_inb c p) p

/-- The drain of hop 0. -/
def drain0 (δ : Dir) : PT (F := F) PUnit := do
  waitSend0 x δ 0 0
  waitSend0 x δ 0 1
  waitSend0 x δ 1 0
  waitSend0 x δ 1 1

/-- Hop 0. -/
def hop0 (T : ℕ → Dev nD) (c : Dev nD) : PT (F := F) PUnit := do
  hop0Part x w o T c 0
  hop0Part x w o T c 1
  credits T 0
  drain0 x .r
  drain0 x .l

/-- Hop 7: part 0 goes on to the right only, part 1 to the left only. -/
def hop7 (T : ℕ → Dev nD) (c : Dev nD) : PT (F := F) PUnit := do
  recvBoth 6 0 0
  sendN (T 72) .r 1 2 0 0
  recvBoth 6 0 1
  sendN (T 73) .r 1 2 0 1
  gemmBoth w o c 6 0
  recvBoth 6 1 0
  sendN (T 74) .l 1 2 1 0
  recvBoth 6 1 1
  sendN (T 75) .l 1 2 1 1
  gemmBoth w o c 6 1
  waitSendN .r 1 2 0 0
  waitSendN .r 1 2 0 1
  waitSendN .l 1 2 1 0
  waitSendN .l 1 2 1 1

/-- The last arrivals: the two halves of the block opposite. -/
def tailPart (c : Dev nD) (s : Fin 2) : PT (F := F) PUnit := do
  waitRecv .r 2 0 s
  gemmP w o (k0_off4 c (BitVec.ofNat 32 (128 * (0 : Fin 2).val)) (BitVec.ofNat 32 (64 * s.val))) (k0_off4_inb c 0 s) .r 2 0 s
  waitRecv .l 2 1 s
  gemmP w o (k0_off4 c (BitVec.ofNat 32 (128 * (1 : Fin 2).val)) (BitVec.ofNat 32 (64 * s.val))) (k0_off4_inb c 1 s) .l 2 1 s

/-- The signals to both neighbours and the wait for theirs. -/
def handshake (T : ℕ → Dev nD) : PT (F := F) PUnit := do
  semSignalWord (T 0) barS 1#32
  semSignalWord (T 1) barS 1#32
  semWaitWord barS 2#32

/-- The whole body once the device is known. -/
def body (T : ℕ → Dev nD) (c : Dev nD) : PT (F := F) PUnit := do
  handshake T
  hop0 x w o T c
  hop w o T c 0
  hop w o T c 1
  creditWait 3#32
  hop w o T c 2
  creditWait 1#32
  hop w o T c 3
  creditWait 1#32
  hop w o T c 4
  creditWait 1#32
  hop w o T c 5
  creditWait 1#32
  hop7 w o T c
  tailPart w o c 0
  tailPart w o c 1

end

/-- The devices that the body addresses, in its order. -/
def devTab (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩, ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩, ⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩, ⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩, ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩, ⟨k0_dev61 c, k0_dev61_lt c⟩, ⟨k0_dev62 c, k0_dev62_lt c⟩, ⟨k0_dev63 c, k0_dev63_lt c⟩, ⟨k0_dev64 c, k0_dev64_lt c⟩, ⟨k0_dev65 c, k0_dev65_lt c⟩, ⟨k0_dev66 c, k0_dev66_lt c⟩, ⟨k0_dev67 c, k0_dev67_lt c⟩, ⟨k0_dev68 c, k0_dev68_lt c⟩, ⟨k0_dev69 c, k0_dev69_lt c⟩, ⟨k0_dev70 c, k0_dev70_lt c⟩, ⟨k0_dev71 c, k0_dev71_lt c⟩, ⟨k0_dev72 c, k0_dev72_lt c⟩, ⟨k0_dev73 c, k0_dev73_lt c⟩, ⟨k0_dev74 c, k0_dev74_lt c⟩, ⟨k0_dev75 c, k0_dev75_lt c⟩, ⟨k0_dev76 c, k0_dev76_lt c⟩]

set_option backward.proofsInPublic true in
/-- One instruction of two programs at a time. -/
theorem op_congr.{v} {E : Type → Type v} {α β : Type} {e : E β} {k k' : β → Prog E α} (h : ∀ x, k x = k' x) : Prog.op e k = Prog.op e k' :=
  congrArg (Prog.op e) (funext h)

set_option maxRecDepth 100000 in
set_option maxHeartbeats 0 in
/-- The printed body is the program above, with the printed table of devices. -/
theorem cc0_body_eq (x : Memref sig .tc .vmem S256x4096 .f32) (hx : x.IsWhole) (w : Memref sig .tc .vmem S4096x128 .f32) (hw : w.IsWhole)
    (o : Memref sig .tc .vmem S4096x128 .f32) (ho : o.IsWhole) (h0 : (Memref.whole cc0_scratch0 : Memref sig .tc .vmem S3x2x128x4096 .f32).IsWhole)
    (h1 : (Memref.whole cc0_scratch1 : Memref sig .tc .vmem S3x2x128x4096 .f32).IsWhole) :
    cc0_body (F := F) x hx w hw o ho (Memref.whole cc0_scratch0) h0 (Memref.whole cc0_scratch1) h1 cc0_scratch2 cc0_scratch3 cc0_scratch4 cc0_scratch5 cc0_scratch6 cc0_scratch7
      = (Prog.lift .deviceId >>= fun c => body (F := F) x w o (fun i => (devTab c).getD i c) c) := by
  refine op_congr fun c => ?_
  repeat (refine op_congr fun _ => ?_)
  rfl

end Cert.RingProof

end
-- ==== Proof.Sched.lean ====
/- The protocol of the ring: the cells, the rounds of each, what each landing hands over, the levels, and
   what each device owes.

   Counting. The copy of hop `h` (0 to 7) lands as ARRIVAL `h + 1` at the neighbour. Arrival `a` lies in slot
   `a % 3`; it is round `(a - 1) / 3` of that slot's receive semaphore. Hop 7 only moves part 0 to the right
   and part 1 to the left (`dom`). A send semaphore of slot `k` counts the hops that read slot `k`; hop 0,
   which reads the device's own block, counts on slot 1.

   Barrier: each neighbour's signal hands over the receive buffer that `c` fills at that neighbour.
   Receive: the piece, holding the origin's rows. Send: the lent share of the piece read.
   Credit: seven signals of one unit, the `j`-th (at hop `j`) saying that the receiver has reached the rounds of
   arrivals `2, …, j + 2` and has released the slots of arrivals `1, …, j - 1`. -/
module

public import proofs.«01_k».proof.Proof.Ring
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Memref
public import Idealize.ShloMosaic.Lib.Tactic

@[expose] public section

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open BI.BIBase BI.Laws
open Idealize.SL.ProofMode Idealize.SL.Sem
open Idealize.ShloMosaic.Rounds

/-! ## The tables of devices and of rows -/

/-- The devices that the printed body addresses, in order. -/
def T (c : Dev nD) (i : ℕ) : Dev nD := (devTab c).getD i c

theorem T_bar : ∀ c, T c 0 = prv .r c ∧ T c 1 = prv .l c := by decide +kernel
theorem T_send0 : ∀ (c : Dev nD) (p : Fin 2), T c (2 + 4 * p.val) = nbr .r c ∧ T c (3 + 4 * p.val) = nbr .l c
    ∧ T c (4 + 4 * p.val) = nbr .r c ∧ T c (5 + 4 * p.val) = nbr .l c := by decide +kernel
theorem T_send : ∀ (c : Dev nD) (r : Fin 6) (p s : Fin 2), T c (12 + 10 * r.val + 4 * p.val + 2 * s.val) = nbr .r c
    ∧ T c (13 + 10 * r.val + 4 * p.val + 2 * s.val) = nbr .l c := by decide +kernel
theorem T_credit : ∀ (c : Dev nD) (h : Fin 7), T c (10 + 10 * h.val) = prv .r c ∧ T c (11 + 10 * h.val) = prv .l c := by decide +kernel
theorem T_last : ∀ c, T c 72 = nbr .r c ∧ T c 73 = nbr .r c ∧ T c 74 = nbr .l c ∧ T c 75 = nbr .l c := by decide +kernel

theorem off1_eq : ∀ (c : Dev nD) (p : Fin 2), k0_off1 c (BitVec.ofNat 32 (128 * p.val)) = ![256 * c.val + 128 * p.val, 0] := by decide +kernel
theorem offB_eq : ∀ (δ : Dir) (c : Dev nD) (r : Fin 7) (p : Fin 2), offB c δ r p = ![256 * (org δ c (r.val + 1)).val + 128 * p.val, 0] := by decide +kernel
theorem off4_eq : ∀ (c : Dev nD) (p s : Fin 2), k0_off4 c (BitVec.ofNat 32 (128 * p.val)) (BitVec.ofNat 32 (64 * s.val))
    = ![256 * (org .r c 8).val + 128 * p.val + 64 * s.val, 0] := by decide +kernel

theorem org_lr8 : ∀ c, org .l c 8 = org .r c 8 := by decide

/-! ## Cells -/

/-- The neighbour sent to, as a permutation of the devices. -/
def nbrE (δ : Dir) : Dev nD ≃ Dev nD := ⟨nbr δ, prv δ, prv_nbr δ, nbr_prv δ⟩

abbrev barC (c : Dev nD) : GSem nD τ sig := ((c : Thread nD τ), .reg barS)
abbrev crC (δ : Dir) (c : Dev nD) : GSem nD τ sig := ((c : Thread nD τ), .reg (creditS δ))
abbrev sdC (δ : Dir) (c : Dev nD) (k : Fin 3) (p s : Fin 2) : GSem nD τ sig := ((c : Thread nD τ), .dma (sSem δ k p s))
abbrev rvC (δ : Dir) (c : Dev nD) (k : Fin 3) (p s : Fin 2) : GSem nD τ sig := ((c : Thread nD τ), .dma (rSem δ k p s))

/-- The semaphores of the protocol, by number: the barrier, the two credits, then the DMA semaphores. -/
def csem : Fin 51 → SemLoc sig := fun i =>
  if i.val = 0 then .reg barS else if i.val = 1 then .reg (creditS .r) else if i.val = 2 then .reg (creditS .l) else .dma i

abbrev kcell (ci : Dev nD × Fin 51) : GSem nD τ sig := ((ci.1 : Thread nD τ), csem ci.2)

/-- What a semaphore is for. -/
inductive CK | bar | cr (δ : Dir) | sd (δ : Dir) (k : Fin 3) (p s : Fin 2) | rv (δ : Dir) (k : Fin 3) (p s : Fin 2) | other
  deriving DecidableEq

set_option backward.proofsInPublic true in
def fin3 (n : ℕ) : Fin 3 := ⟨n % 3, Nat.mod_lt _ (by decide)⟩
set_option backward.proofsInPublic true in
def fin2 (n : ℕ) : Fin 2 := ⟨n % 2, Nat.mod_lt _ (by decide)⟩

/-- What a DMA semaphore is for, by its number less three. -/
def decD (n : ℕ) : CK :=
  if (n / 12) % 2 = 0 then .sd (if n / 24 = 0 then .r else .l) (fin3 (n % 12 / 4)) (fin2 (n % 12 / 2)) (fin2 n)
  else .rv (if n / 24 = 0 then .r else .l) (fin3 (n % 12 / 4)) (fin2 (n % 12 / 2)) (fin2 n)

def dec : SemLoc sig → CK
  | .reg s => if s = barS then .bar else if s = creditS .r then .cr .r else if s = creditS .l then .cr .l else .other
  | .dma q => if q.val < 3 then .other else decD (q.val - 3)

theorem dec_bar : dec (.reg barS) = .bar := by decide
theorem dec_cr : ∀ δ, dec (.reg (creditS δ)) = .cr δ := by decide
theorem dec_sd : ∀ δ k p s, dec (.dma (sSem δ k p s)) = .sd δ k p s := by decide +kernel
theorem dec_rv : ∀ δ k p s, dec (.dma (rSem δ k p s)) = .rv δ k p s := by decide +kernel

/-- The number of each semaphore. -/
def crI (δ : Dir) : Fin 51 := match δ with | .r => 1 | .l => 2
def sdI (δ : Dir) (k : Fin 3) (p s : Fin 2) : Fin 51 := sSem δ k p s
def rvI (δ : Dir) (k : Fin 3) (p s : Fin 2) : Fin 51 := rSem δ k p s
theorem csem_cr : ∀ δ, csem (crI δ) = .reg (creditS δ) := by decide
theorem csem_sd : ∀ δ k p s, csem (sdI δ k p s) = .dma (sSem δ k p s) := by decide +kernel
theorem csem_rv : ∀ δ k p s, csem (rvI δ k p s) = .dma (rSem δ k p s) := by decide +kernel

/-! ## Rounds -/

/-- The part that the last hop moves in a direction. -/
def pk : Dir → Fin 2 | .r => 0 | .l => 1
/-- Hop `h` moves part `p` in direction `δ`. -/
abbrev dom (δ : Dir) (h : ℕ) (p : Fin 2) : Prop := h < 7 ∨ (h = 7 ∧ p = pk δ)

/-- The slot whose send semaphore hop `h` uses, and the round of it. -/
def sS (h : ℕ) : Fin 3 := if h = 0 then 1 else sl h
def sR (h : ℕ) : ℕ := if h = 0 then 0 else (h - 1) / 3 + (if h % 3 = 1 then 1 else 0)
/-- The hop that a send semaphore's round is, -/
def sHop (k : Fin 3) (r : ℕ) : ℕ := if k = 1 then (if r = 0 then 0 else 3 * r - 2) else if k = 2 then 3 * r + 2 else 3 * r + 3
/-- and the hop whose landing a receive semaphore's round is. -/
def rHop (k : Fin 3) (r : ℕ) : ℕ := if k = 0 then 3 * r + 2 else if k = 1 then 3 * r else 3 * r + 1

theorem sl_cases (n : ℕ) : (n % 3 = 0 ∧ sl n = 0) ∨ (n % 3 = 1 ∧ sl n = 1) ∨ (n % 3 = 2 ∧ sl n = 2) := by
  have h : n % 3 < 3 := Nat.mod_lt _ (by decide)
  have e : ∀ i : Fin 3, n % 3 = i.val → sl n = i := fun i hi => Fin.ext hi
  rcases (by omega : n % 3 = 0 ∨ n % 3 = 1 ∨ n % 3 = 2) with h | h | h
  · exact .inl ⟨h, e 0 h⟩
  · exact .inr (.inl ⟨h, e 1 h⟩)
  · exact .inr (.inr ⟨h, e 2 h⟩)

theorem rHop_sl (h : ℕ) : rHop (sl (h + 1)) (h / 3) = h := by
  rcases sl_cases (h + 1) with ⟨e, hs⟩ | ⟨e, hs⟩ | ⟨e, hs⟩ <;> rw [hs] <;> simp [rHop] <;> omega
theorem sHop_sS (h : ℕ) : sHop (sS h) (sR h) = h := by
  unfold sS sR
  by_cases h0 : h = 0
  · subst h0; rfl
  · rw [if_neg h0, if_neg h0]
    rcases sl_cases h with ⟨e, hs⟩ | ⟨e, hs⟩ | ⟨e, hs⟩ <;> rw [hs] <;> simp [sHop, e] <;> omega

/-- The slot and round three arrivals later: the same slot, the next round. -/
theorem sl_add3 (a : ℕ) : sl (a + 3) = sl a := Fin.ext (Nat.add_mod_right a 3)
theorem rnd_add3 (a : ℕ) (ha : 1 ≤ a) : (a + 3 - 1) / 3 = (a - 1) / 3 + 1 := by omega
/-- The next hop that uses the same send semaphore. -/
def sNext (h : ℕ) : ℕ := if h = 0 then 1 else h + 3
theorem sS_next (h : ℕ) : sS (sNext h) = sS h := by
  unfold sNext; by_cases h0 : h = 0
  · subst h0; rfl
  · rw [if_neg h0]; unfold sS; rw [if_neg h0, if_neg (by omega), sl_add3]
theorem sR_next (h : ℕ) : sR (sNext h) = sR h + 1 := by
  unfold sNext; by_cases h0 : h = 0
  · subst h0; rfl
  · rw [if_neg h0]; unfold sR; rw [if_neg h0, if_neg (by omega)]
    have : (h + 3) % 3 = h % 3 := Nat.add_mod_right h 3
    rw [this]; split <;> omega

theorem rHop_mono (k : Fin 3) {r r' : ℕ} (h : r ≤ r') : rHop k r ≤ rHop k r' := by
  unfold rHop; split
  · omega
  · split <;> omega
theorem sHop_mono (k : Fin 3) {r r' : ℕ} (h : r ≤ r') : sHop k r ≤ sHop k r' := by
  unfold sHop; split
  · split
    · omega
    · rw [if_neg (by omega)]; omega
  · split <;> omega

/-! ## Memrefs, contents -/

abbrev xM : Memref sig .tc .vmem S256x4096 .f32 := Memref.whole cc0_stg0_0
abbrev wM : Memref sig .tc .vmem S4096x128 .f32 := Memref.whole cc0_stg1_0
abbrev oM : Memref sig .tc .vmem S4096x128 .f32 := Memref.whole cc0_stg2_0

/-- The credit of a piece. -/
def N : ℕ := (pieceM .r 0 0 0).view.dmaCredit
theorem credit_piece (δ : Dir) (k : Fin 3) (p s : Fin 2) : (pieceM δ k p s).view.dmaCredit = N := by cases δ <;> rfl
theorem credit_x (p s : Fin 2) : (xpM (Memref.whole cc0_stg0_0) p s).view.dmaCredit = N := rfl
theorem N_pos : 0 < N := View.dmaCredit_pos _ (by decide)
attribute [irreducible] N

variable {F : FTy → Type} [FloatOps F]

/-- The keys of the slots' releases: receiver, direction, arrival, part, piece. -/
abbrev Key : Type := Dev nD × Dir × Fin 8 × Fin 2 × Fin 2
abbrev UB : Type := URounds (GSem nD τ sig) ℕ
def UA : Type := UB × Release.USlots Key
instance UA_ura : URA UA := inferInstanceAs (URA (UB × Release.USlots Key))
def UAl : Emb UB UA := (Emb.inl : Emb UB (UB × Release.USlots Key))
def UAr : Emb (Release.USlots Key) UA := (Emb.inr : Emb (Release.USlots Key) (UB × Release.USlots Key))
abbrev UU : Type := UR sig nD τ × UA
local notation "𝕄" => MT nD τ sig ℕ (Elt F) ℕ UU ℕ

abbrev EP : Emb (UR sig nD τ) (MT nD τ sig ℕ (Elt F) ℕ UU ℕ) := embL
/-- The rounds of the ring, -/
def ER : Emb UB (MT nD τ sig ℕ (Elt F) ℕ UU ℕ) := UAl.trans embR
/-- and its releases. -/
def ES : Emb (Release.USlots Key) (MT nD τ sig ℕ (Elt F) ℕ UU ℕ) := UAr.trans embR
instance ER_landsIn : (ER : Emb UB 𝕄).LandsIn (upEmb : UEmb _ 𝕄) := by unfold ER; infer_instance
instance ES_landsIn : (ES : Emb (Release.USlots Key) 𝕄).LandsIn (upEmb : UEmb _ 𝕄) := by unfold ES; infer_instance

/-- A piece of a receive buffer of `c`, held at a share and reading `V`; -/
def Pc (δ : Dir) (c : Dev nD) (k : Fin 3) (p s : Fin 2) (q : PosShare TreeShare) (V : S64x4096.Idx → Elt F .f32) : sProp 𝕄 :=
  ownsTc c (pieceM δ k p s) q V
/-- held whole, whatever it reads; -/
def slotP (δ : Dir) (c : Dev nD) (k : Fin 3) (p s : Fin 2) : sProp 𝕄 :=
  Release.slot ((pieceM δ k p s).view.loc (c : Thread nD τ)) (pieceM δ k p s).view.set
/-- and a piece of the staged own block. -/
def Xp (c : Dev nD) (p s : Fin 2) (q : PosShare TreeShare) (V : S64x4096.Idx → Elt F .f32) : sProp 𝕄 :=
  ownsTc c (xpM xM p s) q V

instance Pc_storable (δ : Dir) (c : Dev nD) (k : Fin 3) (p s : Fin 2) (q : PosShare TreeShare) (V : S64x4096.Idx → Elt F .f32) :
    BI.Storable (upEmb : UEmb _ 𝕄) (Pc (F := F) δ c k p s q V) := by unfold Pc ownsTc owns; infer_instance
instance Xp_storable (c : Dev nD) (p s : Fin 2) (q : PosShare TreeShare) (V : S64x4096.Idx → Elt F .f32) :
    BI.Storable (upEmb : UEmb _ 𝕄) (Xp (F := F) c p s q V) := by unfold Xp ownsTc owns; infer_instance
instance slotP_storable (δ : Dir) (c : Dev nD) (k : Fin 3) (p s : Fin 2) :
    BI.Storable (upEmb : UEmb _ 𝕄) (slotP (F := F) δ c k p s) := by unfold slotP; infer_instance

theorem slotP_excl (δ : Dir) (c : Dev nD) (k : Fin 3) (p s : Fin 2) :
    iprop(slotP δ c k p s ∗ slotP δ c k p s) ⊢ (False : sProp 𝕄) :=
  Release.slot_slot_false (by
    have : Nonempty S64x4096.Idx := ⟨fun a => ⟨0, by revert a; decide⟩⟩
    obtain ⟨i⟩ := this
    exact ⟨_, Finset.mem_map_of_mem _ (Finset.mem_univ i)⟩)

/-- The share of the staged block that hop 0 lends to the copies of a direction. -/
def qx : Dir → PosShare TreeShare
  | .r => fullShare.right.left
  | .l => fullShare.right.right

section
variable (X : Dev nD → S256x4096.Idx → Elt F .f32)

/-- The rows of piece `(p, s)` of device `c`'s block. -/
def Vx (c : Dev nD) (p s : Fin 2) : S64x4096.Idx → Elt F .f32 :=
  fun i => X c ((Rect.unit (s := S256x4096) ![128 * p.val + 64 * s.val, 0] S64x4096.size (inbX p s)).emb i)

set_option backward.proofsInPublic true in
/-- The key of arrival `a`. -/
def key (δ : Dir) (c : Dev nD) (a : ℕ) (p s : Fin 2) : Key := (c, δ, ⟨a % 8, Nat.mod_lt _ (by decide)⟩, p, s)

/-- Four pieces. -/
def A4 (f : Fin 2 → Fin 2 → sProp 𝕄) : sProp 𝕄 := iprop(f 0 0 ∗ f 0 1 ∗ f 1 0 ∗ f 1 1)

instance A4_persistent (f : Fin 2 → Fin 2 → sProp 𝕄) [∀ p s, BI.Persistent (f p s)] : BI.Persistent (A4 f) := by unfold A4; infer_instance
instance A4_storable (f : Fin 2 → Fin 2 → sProp 𝕄) [∀ p s, BI.Storable (upEmb : UEmb _ 𝕄) (f p s)] : BI.Storable (upEmb : UEmb _ 𝕄) (A4 f) := by
  unfold A4; infer_instance

/-- What the signal of hop `j` adds for a piece: the receiver has reached the round of arrival `j + 2`, -/
def RelA (δ : Dir) (c : Dev nD) (j : ℕ) (p s : Fin 2) : sProp 𝕄 := reached ER (rvC δ c (sl (j + 2)) p s) ((j + 1) / 3)
/-- and has released arrival `j - 1`, if a copy is to fill its slot again. -/
def RelB (δ : Dir) (c : Dev nD) (j : ℕ) (p s : Fin 2) : sProp 𝕄 :=
  if 2 ≤ j ∧ dom δ (j + 1) p then Release.released ES (key δ c (j - 1) p s) 1 else iprop(emp)
def Rel (δ : Dir) (c : Dev nD) (j : ℕ) : sProp 𝕄 := iprop(A4 (RelA δ c j) ∗ A4 (RelB δ c j))
/-- All that the first `n` signals say. -/
def RelU (δ : Dir) (c : Dev nD) (n : ℕ) : sProp 𝕄 := bigSep (Finset.range n) (Rel δ c)

instance RelA_persistent (δ : Dir) (c : Dev nD) (j : ℕ) (p s : Fin 2) : BI.Persistent (RelA (F := F) δ c j p s) := by unfold RelA; infer_instance
instance RelB_persistent (δ : Dir) (c : Dev nD) (j : ℕ) (p s : Fin 2) : BI.Persistent (RelB (F := F) δ c j p s) := by
  unfold RelB; split <;> infer_instance
instance Rel_persistent (δ : Dir) (c : Dev nD) (j : ℕ) : BI.Persistent (Rel (F := F) δ c j) := by unfold Rel; infer_instance
instance RelU_persistent (δ : Dir) (c : Dev nD) (n : ℕ) : BI.Persistent (RelU (F := F) δ c n) := by unfold RelU; infer_instance
instance RelA_storable (δ : Dir) (c : Dev nD) (j : ℕ) (p s : Fin 2) : BI.Storable (upEmb : UEmb _ 𝕄) (RelA (F := F) δ c j p s) := by
  unfold RelA; infer_instance
instance RelB_storable (δ : Dir) (c : Dev nD) (j : ℕ) (p s : Fin 2) : BI.Storable (upEmb : UEmb _ 𝕄) (RelB (F := F) δ c j p s) := by
  unfold RelB; split <;> infer_instance
instance Rel_storable (δ : Dir) (c : Dev nD) (j : ℕ) : BI.Storable (upEmb : UEmb _ 𝕄) (Rel (F := F) δ c j) := by unfold Rel; infer_instance
instance RelU_storable (δ : Dir) (c : Dev nD) (n : ℕ) : BI.Storable (upEmb : UEmb _ 𝕄) (RelU (F := F) δ c n) := by unfold RelU; infer_instance

/-- A whole receive buffer, by pieces. -/
def Bufs (δ : Dir) (c : Dev nD) : sProp 𝕄 := iprop(A4 (slotP δ c 0) ∗ A4 (slotP δ c 1) ∗ A4 (slotP δ c 2))
instance Bufs_storable (δ : Dir) (c : Dev nD) : BI.Storable (upEmb : UEmb _ 𝕄) (Bufs (F := F) δ c) := by unfold Bufs; infer_instance

/-- What the barrier signal from the neighbour of duty `d` hands over. -/
def barPay (c : Dev nD) (d : ℕ) : sProp 𝕄 := if d = 0 then Bufs .r (nbr .r c) else Bufs .l (nbr .l c)
/-- What a copy of hop `h` gives back to its sender, -/
def sdPay (δ : Dir) (c : Dev nD) (h : ℕ) (k : Fin 3) (p s : Fin 2) : sProp 𝕄 :=
  if h = 0 then Xp c p s (qx δ) (Vx X c p s) else Pc δ c k p s fullShare.right (Vx X (org δ c h) p s)
/-- and what it hands to its receiver. -/
def rvPay (δ : Dir) (c : Dev nD) (h : ℕ) (k : Fin 3) (p s : Fin 2) : sProp 𝕄 := Pc δ c k p s fullShare (Vx X (org δ c (h + 1)) p s)

def dutiesK (r : ℕ) : CK → Finset ℕ
  | .bar => if r = 0 then Finset.range 2 else ∅
  | .cr _ => if r = 0 then Finset.range 7 else ∅
  | .sd δ k p _ => if dom δ (sHop k r) p then {0} else ∅
  | .rv δ k p _ => if dom δ (rHop k r) p then {0} else ∅
  | .other => ∅
def amountK : CK → ℕ
  | .sd _ _ _ _ => N
  | .rv _ _ _ _ => N
  | _ => 1
def payK (c : Dev nD) (r d : ℕ) : CK → sProp 𝕄
  | .bar => barPay c d
  | .cr δ => RelU δ (nbr δ c) (d + 1)
  | .sd δ k p s => sdPay X δ c (sHop k r) k p s
  | .rv δ k p s => rvPay X δ c (rHop k r) k p s
  | .other => iprop(emp)

/-- The rounds of every cell. -/
def Rd : Rounds.Schedule (GSem nD τ sig) ℕ 𝕄 where
  duties g r := dutiesK r (dec g.2)
  unitless _ := False
  amount g _ _ := amountK (dec g.2)
  payload g r d := payK X g.1.1 r d (dec g.2)
  amount_pos g _ _ _ := by
    cases dec g.2 with
    | sd => exact N_pos
    | rv => exact N_pos
    | bar => exact Nat.one_pos
    | cr => exact Nat.one_pos
    | other => exact Nat.one_pos

instance Rd_storable (g : GSem nD τ sig) (r d : ℕ) : BI.Storable (upEmb : UEmb _ 𝕄) ((Rd (F := F) X).payload g r d) := by
  show BI.Storable upEmb (payK X g.1.1 r d (dec g.2))
  cases dec g.2 <;> unfold payK
  · dsimp only; unfold barPay; split <;> infer_instance
  · dsimp only; infer_instance
  · dsimp only; unfold sdPay; split <;> infer_instance
  · dsimp only; unfold rvPay; infer_instance
  · dsimp only; infer_instance

section Facts
variable (δ : Dir) (c : Dev nD) (k : Fin 3) (p s : Fin 2) (h r d : ℕ)

theorem duties_bar : (Rd (F := F) X).duties (barC c) 0 = Finset.range 2 := by dsimp only [Rd]; rw [dec_bar]; rfl
theorem duties_cr : (Rd (F := F) X).duties (crC δ c) 0 = Finset.range 7 := by dsimp only [Rd]; rw [dec_cr]; rfl
theorem duties_sd : (Rd (F := F) X).duties (sdC δ c k p s) r = if dom δ (sHop k r) p then {0} else ∅ := by dsimp only [Rd]; rw [dec_sd]; rfl
theorem duties_rv : (Rd (F := F) X).duties (rvC δ c k p s) r = if dom δ (rHop k r) p then {0} else ∅ := by dsimp only [Rd]; rw [dec_rv]; rfl
theorem duties_sd_hop (hd : dom δ h p) : (Rd (F := F) X).duties (sdC δ c (sS h) p s) (sR h) = {0} := by rw [duties_sd, sHop_sS, if_pos hd]
theorem duties_rv_hop (hd : dom δ h p) : (Rd (F := F) X).duties (rvC δ c (sl (h + 1)) p s) (h / 3) = {0} := by rw [duties_rv, rHop_sl, if_pos hd]

theorem amount_bar : (Rd X).amount (barC c) r d = 1 := by dsimp only [Rd]; rw [dec_bar]; rfl
theorem amount_cr : (Rd X).amount (crC δ c) r d = 1 := by dsimp only [Rd]; rw [dec_cr]; rfl
theorem amount_sd : (Rd X).amount (sdC δ c k p s) r d = N := by dsimp only [Rd]; rw [dec_sd]; rfl
theorem amount_rv : (Rd X).amount (rvC δ c k p s) r d = N := by dsimp only [Rd]; rw [dec_rv]; rfl

theorem payload_bar : (Rd X).payload (barC c) r d = barPay c d := by dsimp only [Rd]; rw [dec_bar]; rfl
theorem payload_cr : (Rd X).payload (crC δ c) r d = RelU δ (nbr δ c) (d + 1) := by dsimp only [Rd]; rw [dec_cr]; rfl
theorem payload_sd : (Rd X).payload (sdC δ c (sS h) p s) (sR h) d = sdPay X δ c h (sS h) p s := by
  dsimp only [Rd]; rw [dec_sd]; show sdPay X δ c (sHop (sS h) (sR h)) (sS h) p s = _; rw [sHop_sS]
theorem payload_rv : (Rd X).payload (rvC δ c (sl (h + 1)) p s) (h / 3) d = rvPay X δ c h (sl (h + 1)) p s := by
  dsimp only [Rd]; rw [dec_rv]; show rvPay X δ c (rHop (sl (h + 1)) (h / 3)) _ p s = _; rw [rHop_sl]

theorem expect_bar : (Rd X).expect (barC c) 0 = 2 := by
  unfold Schedule.expect Schedule.amountOf; rw [duties_bar, Finset.sum_congr rfl fun d _ => amount_bar X c 0 d]; rfl
theorem expect_cr : (Rd X).expect (crC δ c) 0 = 7 := by
  unfold Schedule.expect Schedule.amountOf; rw [duties_cr, Finset.sum_congr rfl fun d _ => amount_cr X δ c 0 d]; rfl
theorem expect_sd (hd : dom δ h p) : (Rd X).expect (sdC δ c (sS h) p s) (sR h) = N := by
  unfold Schedule.expect Schedule.amountOf; rw [duties_sd_hop X δ c p s h hd, Finset.sum_singleton, amount_sd]
theorem expect_rv (hd : dom δ h p) : (Rd X).expect (rvC δ c (sl (h + 1)) p s) (h / 3) = N := by
  unfold Schedule.expect Schedule.amountOf; rw [duties_rv_hop X δ c p s h hd, Finset.sum_singleton, amount_rv]

/-- No duties are left after the last round. -/
theorem done_bar : ∀ r, 1 ≤ r → (Rd (F := F) X).duties (barC c) r = ∅ := fun r hr => by
  dsimp only [Rd]; rw [dec_bar]; exact if_neg (by omega)
theorem done_cr : ∀ r, 1 ≤ r → (Rd (F := F) X).duties (crC δ c) r = ∅ := fun r hr => by
  dsimp only [Rd]; rw [dec_cr]; exact if_neg (by omega)
theorem done_rv (hd : 8 ≤ h ∨ (h = 7 ∧ p ≠ pk δ)) : ∀ r, h / 3 ≤ r → (Rd (F := F) X).duties (rvC δ c (sl (h + 1)) p s) r = ∅ := fun r hr => by
  rw [duties_rv]
  have := rHop_mono (sl (h + 1)) hr
  rw [rHop_sl] at this
  rw [if_neg]; rintro (h1 | ⟨h1, h2⟩)
  · omega
  · rcases hd with hd | hd
    · omega
    · exact hd.2 h2
theorem done_sd (hd : 8 ≤ h ∨ (h = 7 ∧ p ≠ pk δ)) : ∀ r, sR h ≤ r → (Rd (F := F) X).duties (sdC δ c (sS h) p s) r = ∅ := fun r hr => by
  rw [duties_sd]
  have := sHop_mono (sS h) hr
  rw [sHop_sS] at this
  rw [if_neg]; rintro (h1 | ⟨h1, h2⟩)
  · omega
  · rcases hd with hd | hd
    · omega
    · exact hd.2 h2

end Facts
end

/-! ## What a device owes; the levels -/

/-- An obligation: whom it is owed to (as a permutation of the devices), the semaphore, the index, the amount. -/
abbrev Ent : Type := (Dev nD ≃ Dev nD) × SemLoc sig × ℕ × ℕ

def sendEnt (δ : Dir) (h : ℕ) (p s : Fin 2) : Ent := (nbrE δ, .dma (rSem δ (sl (h + 1)) p s), 2 * h + 2, N)
def credEnt (δ : Dir) (h : ℕ) : Ent := ((nbrE δ).symm, .reg (creditS δ), 2 * max h 2 + 3, 1)
def barEnt (δ : Dir) : Ent := ((nbrE δ).symm, .reg barS, 1, 1)

/-- What part `p` of hop `h` pays, -/
def partEnts (h : ℕ) (p : Fin 2) (l : List Ent) : List Ent :=
  sendEnt .r h p 0 :: sendEnt .l h p 0 :: sendEnt .r h p 1 :: sendEnt .l h p 1 :: l
/-- what hop `h` pays, -/
def hopEnts (h : ℕ) (l : List Ent) : List Ent := partEnts h 0 (partEnts h 1 (credEnt .r h :: credEnt .l h :: l))
/-- what hop 7 pays, -/
def lastEnts : List Ent := [sendEnt .r 7 0 0, sendEnt .r 7 0 1, sendEnt .l 7 1 0, sendEnt .l 7 1 1]
/-- what the last `n` hops before hop 7, and hop 7, pay, -/
def restN : ℕ → List Ent
  | 0 => lastEnts
  | n + 1 => hopEnts (6 - n) (restN n)
/-- what hops `h` and later pay, -/
def rest (h : ℕ) : List Ent := restN (7 - h)
/-- and everything, the handshake first. -/
def allEnts : List Ent := barEnt .r :: barEnt .l :: rest 0

theorem rest_succ (h : ℕ) (hh : h < 7) : rest h = hopEnts h (rest (h + 1)) := by
  unfold rest
  obtain ⟨n, hn⟩ : ∃ n, 7 - h = n + 1 := ⟨6 - h, by omega⟩
  rw [hn, restN, show 7 - (h + 1) = n by omega, show 6 - n = h by omega]

/-- What device `c` owes, from a list in program order: the first entry is paid first. -/
def obl (c : Dev nD) (l : List Ent) : CellTallies nD τ sig ℕ :=
  l.foldr (fun e O => O + tallyAt (((e.1 c : Dev nD) : Thread nD τ), e.2.1) e.2.2.1 e.2.2.2) 0
theorem obl_cons (c : Dev nD) (e : Ent) (l : List Ent) :
    obl c (e :: l) = obl c l + tallyAt (((e.1 c : Dev nD) : Thread nD τ), e.2.1) e.2.2.1 e.2.2.2 := rfl

/-- Every index of the list is above `n`. -/
def lb (n : ℕ) (l : List Ent) : Prop := ∀ e ∈ l, n < e.2.2.1 ∧ e.2.2.1 < 20
theorem lb_nil (n : ℕ) : lb n [] := fun _ h => absurd h List.not_mem_nil
theorem lb_cons (n : ℕ) (e : Ent) (l : List Ent) : lb n (e :: l) ↔ (n < e.2.2.1 ∧ e.2.2.1 < 20) ∧ lb n l := List.forall_mem_cons
theorem lb_mono {n m : ℕ} (h : n ≤ m) {l : List Ent} (hl : lb m l) : lb n l := fun e he => ⟨lt_of_le_of_lt h (hl e he).1, (hl e he).2⟩
instance (n : ℕ) (l : List Ent) : Decidable (lb n l) := by unfold lb; infer_instance
theorem lb_rest : ∀ h : Fin 8, lb (2 * h.val + 1) (rest h.val) := by decide +kernel
theorem lb_all : lb 0 allEnts := by decide +kernel

def L (g : GSem nD τ sig) : Finset ℕ := if g.1.2 = .tc then Finset.range 20 else ∅
/-- The level of an index is the index. -/
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 20 := if_pos rfl

theorem obl_pos {c : Dev nD} {g : GSem nD τ sig} {u : ℕ} : ∀ {l : List Ent}, 0 < obl c l g u →
    ∃ e ∈ l, g = (((e.1 c : Dev nD) : Thread nD τ), e.2.1) ∧ u = e.2.2.1
  | [], h => absurd h (Nat.lt_irrefl 0)
  | e :: l, h => by
    rw [obl_cons, Pi.add_apply, Finsupp.add_apply, tallyAt_apply] at h
    by_cases he : g = (((e.1 c : Dev nD) : Thread nD τ), e.2.1) ∧ u = e.2.2.1
    · exact ⟨e, List.mem_cons_self, he⟩
    · rw [if_neg he, Nat.add_zero] at h
      obtain ⟨e', he', h'⟩ := obl_pos h
      exact ⟨e', List.mem_cons_of_mem _ he', h'⟩

/-- A wait at an index below everything still owed is allowed. -/
theorem mayWait (c : Dev nD) (sm : SemLoc sig) (n : ℕ) (hn : n < 20) (l : List Ent) (hl : lb n l) :
    (levAts L lv : sProp 𝕄) ⊢ MayWait (c : Thread nD τ) sm n (obl c l) :=
  MayOwe.of_cut (L := L) (lev := lv) n (fun p hp => by rw [Finset.mem_singleton.mp hp, L_tc]; exact Finset.mem_range.mpr hn)
    (fun g u hg => by obtain ⟨e, he, rfl, rfl⟩ := obl_pos hg; rw [L_tc]; exact Finset.mem_range.mpr (hl e he).2)
    (fun p hp => by rw [Finset.mem_singleton.mp hp]; exact Nat.le_refl _)
    (fun g u hg => by obtain ⟨e, he, rfl, rfl⟩ := obl_pos hg; exact (hl e he).1)

end Cert.RingProof

end
-- ==== Proof.Steps.lean ====
/- The kernel's steps, one rule each: the waits, the copies, the credits. `Ctx` is what every device knows
   throughout: the invariants of all cells and slots, that every cell is at round 0, the levels. -/
module

public import proofs.«01_k».proof.Proof.Sched

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

abbrev 𝒱₀ : Variants := Variants.none

/-- The weakest precondition of a piece of device `c`'s body. -/
abbrev WP {α : Type} (c : Dev nD) (e : PT (F := F) α) (Φ : α → sProp 𝕄) : sProp 𝕄 :=
  wp frame (wpE (defs₀ (F := F)) 𝒱₀ (c : Thread nD τ) none) Set.univ e Φ

variable (X : Dev nD → S256x4096.Idx → Elt F .f32)

/-- A cell's invariant, under some name. -/
def CI (g : GSem nD τ sig) : sProp 𝕄 := iprop(∃ κ : ℕ, cellInv ER (Rd X) κ g)
instance CI_persistent (g : GSem nD τ sig) : BI.Persistent (CI X g) := by unfold CI; infer_instance
/-- The slot that a key's release hands over, -/
def slotOf (k : Key) : sProp 𝕄 := slotP k.2.1 k.1 (sl k.2.2.1.val) k.2.2.2.1 k.2.2.2.2
instance slotOf_storable (k : Key) : BI.Storable (upEmb : UEmb _ 𝕄) (slotOf (F := F) k) := by unfold slotOf; infer_instance
/-- and its invariant. -/
def SI (k : Key) : sProp 𝕄 := iprop(∃ κ : ℕ, Release.slotInv ES κ k (slotOf k))
instance SI_persistent (k : Key) : BI.Persistent (SI (F := F) k) := by unfold SI; infer_instance

/-- What every device knows throughout. -/
def Ctx : sProp 𝕄 :=
  iprop((bigSep Finset.univ fun ci : Dev nD × Fin 51 => CI X (kcell ci)) ∗ (bigSep Finset.univ fun ci : Dev nD × Fin 51 => reached ER (kcell ci) 0)
    ∗ (bigSep Finset.univ fun k : Key => SI k) ∗ levAts L lv)
instance Ctx_persistent : BI.Persistent (Ctx X) := by unfold Ctx; infer_instance

theorem ctx_cell (ci : Dev nD × Fin 51) : Ctx X ⊢ iprop(CI X (kcell ci) ∗ reached ER (kcell ci) 0) := by
  unfold Ctx
  iintro ⟨#H1, #H2, -, -⟩
  isplitr
  · iapply (show (bigSep Finset.univ fun ci : Dev nD × Fin 51 => CI X (kcell ci)) ⊢ CI X (kcell ci) from bigSep_elim (Finset.mem_univ ci)); iexact H1
  · iapply (show (bigSep Finset.univ fun ci : Dev nD × Fin 51 => (reached ER (kcell ci) 0 : sProp 𝕄)) ⊢ reached ER (kcell ci) 0 from
      bigSep_elim (Finset.mem_univ ci)); iexact H2
theorem ctx_slot (k : Key) : Ctx X ⊢ SI k := by
  unfold Ctx
  iintro ⟨-, -, #H, -⟩
  iapply (show (bigSep Finset.univ fun k : Key => (SI k : sProp 𝕄)) ⊢ SI k from bigSep_elim (Finset.mem_univ k)); iexact H
theorem ctx_lev : Ctx X ⊢ levAts L lv := by
  unfold Ctx
  iintro ⟨-, -, -, H⟩
  iexact H

theorem kcell_cr (δ : Dir) (c : Dev nD) : kcell (c, crI δ) = crC δ c := congrArg (Prod.mk _) (csem_cr δ)
theorem kcell_sd (δ : Dir) (c : Dev nD) (k : Fin 3) (p s : Fin 2) : kcell (c, sdI δ k p s) = sdC δ c k p s := congrArg (Prod.mk _) (csem_sd δ k p s)
theorem kcell_rv (δ : Dir) (c : Dev nD) (k : Fin 3) (p s : Fin 2) : kcell (c, rvI δ k p s) = rvC δ c k p s := congrArg (Prod.mk _) (csem_rv δ k p s)
theorem kcell_bar (c : Dev nD) : kcell (c, 0) = barC c := rfl

theorem ctx_cr (δ : Dir) (c : Dev nD) : Ctx X ⊢ iprop(CI X (crC δ c) ∗ reached ER (crC δ c) 0) := by rw [← kcell_cr]; exact ctx_cell X _
theorem ctx_sd (δ : Dir) (c : Dev nD) (k : Fin 3) (p s : Fin 2) : Ctx X ⊢ iprop(CI X (sdC δ c k p s) ∗ reached ER (sdC δ c k p s) 0) := by
  rw [← kcell_sd]; exact ctx_cell X _
theorem ctx_rv (δ : Dir) (c : Dev nD) (k : Fin 3) (p s : Fin 2) : Ctx X ⊢ iprop(CI X (rvC δ c k p s) ∗ reached ER (rvC δ c k p s) 0) := by
  rw [← kcell_rv]; exact ctx_cell X _
theorem ctx_bar (c : Dev nD) : Ctx X ⊢ iprop(CI X (barC c) ∗ reached ER (barC c) 0) := by rw [← kcell_bar]; exact ctx_cell X _

/-- What device `c` owes, by the list of it. -/
def OW (c : Dev nD) (l : List Ent) : sProp 𝕄 := iprop(∃ W : Waits sig ℕ, owes (c : Thread nD τ) (obl c l) W)

/-- The position of arrival `h + 1`'s cell, at the round of that arrival; -/
def P (δ : Dir) (c : Dev nD) (h : ℕ) (p s : Fin 2) : sProp 𝕄 :=
  iprop(atPos ER (rvC δ c (sl (h + 1)) p s) (h / 3) ∅ 0 ∗ reached ER (rvC δ c (sl (h + 1)) p s) (h / 3))
/-- of hop `h`'s send cell. -/
def Q (δ : Dir) (c : Dev nD) (h : ℕ) (p s : Fin 2) : sProp 𝕄 :=
  iprop(atPos ER (sdC δ c (sS h) p s) (sR h) ∅ 0 ∗ reached ER (sdC δ c (sS h) p s) (sR h))
/-- The credit that hop `h`'s landing brings its receiver. -/
def CrdR (δ : Dir) (c : Dev nD) (h : ℕ) (p s : Fin 2) : sProp 𝕄 := cred (tallyAt (rvC δ c (sl (h + 1)) p s) (2 * h + 2) N)
def CrdS (δ : Dir) (c : Dev nD) (h : ℕ) (p s : Fin 2) : sProp 𝕄 := cred (tallyAt (sdC δ c (sS h) p s) 0 N)

theorem rest_rv (δ : Dir) (c : Dev nD) (h : ℕ) (p s : Fin 2) (hd : dom δ h p) :
    bigSep ((Rd X).duties (rvC δ c (sl (h + 1)) p s) (h / 3) \ ∅) (fun d => (Rd X).payload (rvC δ c (sl (h + 1)) p s) (h / 3) d)
      = (Pc δ c (sl (h + 1)) p s fullShare (Vx X (org δ c (h + 1)) p s) : sProp 𝕄) := by
  rw [Finset.sdiff_empty, duties_rv_hop X δ c p s h hd, bigSep_singleton, payload_rv]; rfl
theorem rest_sd (δ : Dir) (c : Dev nD) (h : ℕ) (p s : Fin 2) (hd : dom δ h p) :
    bigSep ((Rd X).duties (sdC δ c (sS h) p s) (sR h) \ ∅) (fun d => (Rd X).payload (sdC δ c (sS h) p s) (sR h) d)
      = (sdPay X δ c h (sS h) p s : sProp 𝕄) := by
  rw [Finset.sdiff_empty, duties_sd_hop X δ c p s h hd, bigSep_singleton, payload_sd]

/-- Wait for hop `h`'s landing. -/
theorem wp_waitRecv (δ : Dir) (c : Dev nD) (h : ℕ) (p s : Fin 2) (hh : h < 8) (hd : dom δ h p) (l : List Ent) (hl : lb (2 * h + 2) l) (Φ : PUnit → sProp 𝕄) :
    iprop(Ctx X ∗ P δ c h p s ∗ CrdR δ c h p s ∗ OW c l)
      ⊢ iprop((P δ c (h + 3) p s ∗ Pc δ c (sl (h + 1)) p s fullShare (Vx X (org δ c (h + 1)) p s) ∗ OW c l -∗ Φ ⟨⟩)
          -∗ WP c (waitRecv δ (sl (h + 1)) p s) Φ) := by
  unfold P CrdR OW waitRecv
  iintro ⟨#HC, ⟨Hat, -⟩, Hcr, ⟨%W, HO⟩⟩ Hk
  ihave HI := (ctx_rv X δ c (sl (h + 1)) p s) $$ HC
  unfold CI
  icases HI with ⟨⟨%κ, #HI⟩, -⟩
  ihave HM := ((ctx_lev (F := F) X).trans (mayWait (F := F) c (.dma (rSem δ (sl (h + 1)) p s)) (2 * h + 2) (by omega) l hl)) $$ HC
  unfold Prog.lift
  iapply (Rounds.wp_wait_rest_token 𝒱₀ ER (Rd X) (c : Thread nD τ) none (κ := κ) (k' := (pieceM δ (sl (h + 1)) p s).view.dmaCredit)
      (by exact wpE_waitDma2_eq 𝒱₀ (c : Thread nD τ) none Set.univ) (Set.mem_univ _) (2 * h + 2) (O := obl c l) (W := W) (R := h / 3) (m := 0) (T := ∅)
      (by rw [Nat.zero_add, expect_rv X δ c p s h hd]; exact credit_piece ..)) $$ [Hcr HO Hat HM]
  · isplitr; · iexact HI
    isplitl [Hcr]; · rw [credit_piece]; iexact Hcr
    isplitl [HO]; · iexact HO
    isplitl [HM]; · iexact HM
    iexact Hat
  iintro ⟨HO, Hat, Hr, Hpay⟩
  rw [wp_ret]; imodintro
  iapply Hk
  rw [show h + 3 + 1 = h + 1 + 3 from rfl, sl_add3, show (h + 3) / 3 = h / 3 + 1 by omega]
  isplitl [Hat Hr]
  · isplitl [Hat] <;> iassumption
  isplitl [Hpay]
  · iapply (Entails.of_eq (rest_rv X δ c h p s hd)); iexact Hpay
  iexists _; iexact HO

/-- Wait for the copy of hop 0 to have left, -/
theorem wp_waitSend0 (δ : Dir) (c : Dev nD) (p s : Fin 2) (l : List Ent) (hl : lb 0 l) (Φ : PUnit → sProp 𝕄) :
    iprop(Ctx X ∗ Q δ c 0 p s ∗ CrdS δ c 0 p s ∗ OW c l)
      ⊢ iprop((Q δ c 1 p s ∗ Xp c p s (qx δ) (Vx X c p s) ∗ OW c l -∗ Φ ⟨⟩) -∗ WP c (waitSend0 xM δ p s) Φ) := by
  have e1 : sS 1 = sS 0 := rfl
  have e2 : sR 1 = sR 0 + 1 := rfl
  have hp : sdPay X δ c 0 (sS 0) p s = (Xp c p s (qx δ) (Vx X c p s) : sProp 𝕄) := if_pos rfl
  unfold Q CrdS OW waitSend0
  rw [e1, e2, show (sSem δ 1 p s) = sSem δ (sS 0) p s from rfl]
  iintro ⟨#HC, ⟨Hat, -⟩, Hcr, ⟨%W, HO⟩⟩ Hk
  ihave HI := (ctx_sd X δ c (sS 0) p s) $$ HC
  unfold CI
  icases HI with ⟨⟨%κ, #HI⟩, -⟩
  ihave HM := ((ctx_lev (F := F) X).trans (mayWait (F := F) c (.dma (sSem δ (sS 0) p s)) 0 (by omega) l hl)) $$ HC
  unfold Prog.lift
  iapply (Rounds.wp_wait_rest_token 𝒱₀ ER (Rd X) (c : Thread nD τ) none (κ := κ) (k' := (xpM xM p s).view.dmaCredit)
      (by exact wpE_waitDma2_eq 𝒱₀ (c : Thread nD τ) none Set.univ) (Set.mem_univ _) 0 (O := obl c l) (W := W) (R := sR 0) (m := 0) (T := ∅)
      (by rw [Nat.zero_add, expect_sd X δ c p s 0 (Or.inl (by decide))]; exact credit_x ..)) $$ [Hcr HO Hat HM]
  · isplitr; · iexact HI
    isplitl [Hcr]; · rw [credit_x]; iexact Hcr
    isplitl [HO]; · iexact HO
    isplitl [HM]; · iexact HM
    iexact Hat
  iintro ⟨HO, Hat, Hr, Hpay⟩
  rw [wp_ret]; imodintro
  iapply Hk
  isplitl [Hat Hr]
  · isplitl [Hat] <;> iassumption
  isplitl [Hpay]
  · iapply (Entails.of_eq ((rest_sd X δ c 0 p s (Or.inl (by decide))).trans hp)); iexact Hpay
  iexists _; iexact HO

/-- and for that of a later hop. -/
theorem wp_waitSendN (δ : Dir) (c : Dev nD) (h : ℕ) (k' : Fin 3) (p s : Fin 2) (h1 : 1 ≤ h) (hd : dom δ h p) (l : List Ent) (hl : lb 0 l) (Φ : PUnit → sProp 𝕄) :
    iprop(Ctx X ∗ Q δ c h p s ∗ CrdS δ c h p s ∗ OW c l)
      ⊢ iprop((Q δ c (h + 3) p s ∗ Pc δ c (sl h) p s fullShare.right (Vx X (org δ c h) p s) ∗ OW c l -∗ Φ ⟨⟩)
          -∗ WP c (waitSendN δ (sl h) k' p s) Φ) := by
  have hn : sNext h = h + 3 := if_neg (by omega)
  have e1 : sS (h + 3) = sS h := by rw [← hn]; exact sS_next h
  have e2 : sR (h + 3) = sR h + 1 := by rw [← hn]; exact sR_next h
  have hs : sl h = sS h := (if_neg (by omega)).symm
  have hp : sdPay X δ c h (sS h) p s = (Pc δ c (sS h) p s fullShare.right (Vx X (org δ c h) p s) : sProp 𝕄) := if_neg (by omega)
  unfold Q CrdS OW waitSendN
  rw [e1, e2, hs]
  iintro ⟨#HC, ⟨Hat, -⟩, Hcr, ⟨%W, HO⟩⟩ Hk
  ihave HI := (ctx_sd X δ c (sS h) p s) $$ HC
  unfold CI
  icases HI with ⟨⟨%κ, #HI⟩, -⟩
  ihave HM := ((ctx_lev (F := F) X).trans (mayWait (F := F) c (.dma (sSem δ (sS h) p s)) 0 (by omega) l hl)) $$ HC
  unfold Prog.lift
  iapply (Rounds.wp_wait_rest_token 𝒱₀ ER (Rd X) (c : Thread nD τ) none (κ := κ) (k' := (pieceM δ (sS h) p s).view.dmaCredit)
      (by exact wpE_waitDma2_eq 𝒱₀ (c : Thread nD τ) none Set.univ) (Set.mem_univ _) 0 (O := obl c l) (W := W) (R := sR h) (m := 0) (T := ∅)
      (by rw [Nat.zero_add, expect_sd X δ c p s h hd]; exact credit_piece ..)) $$ [Hcr HO Hat HM]
  · isplitr; · iexact HI
    isplitl [Hcr]; · rw [credit_piece]; iexact Hcr
    isplitl [HO]; · iexact HO
    isplitl [HM]; · iexact HM
    iexact Hat
  iintro ⟨HO, Hat, Hr, Hpay⟩
  rw [wp_ret]; imodintro
  iapply Hk
  isplitl [Hat Hr]
  · isplitl [Hat] <;> iassumption
  isplitl [Hpay]
  · iapply (Entails.of_eq ((rest_sd X δ c h p s hd).trans hp)); iexact Hpay
  iexists _; iexact HO

/-! ## The copies -/

/-- The tokens a copy spends: of its own send cell's round and of the receiver's. -/
def SendTok (δ : Dir) (c : Dev nD) (h : ℕ) (p s : Fin 2) : sProp 𝕄 :=
  iprop(dutyTok ER (sdC δ c (sS h) p s) (sR h) 0 ∗ dutyTok ER (rvC δ (nbr δ c) (sl (h + 1)) p s) (h / 3) 0)
/-- What makes a copy possible: the receiver is at the round, and its slot is free. -/
def Ready (δ : Dir) (c : Dev nD) (h : ℕ) (p s : Fin 2) : sProp 𝕄 :=
  iprop(reached ER (rvC δ (nbr δ c) (sl (h + 1)) p s) (h / 3) ∗ slotP δ (nbr δ c) (sl (h + 1)) p s)

theorem lands (δ : Dir) (c : Dev nD) (h : ℕ) (hh : h < 8) (p s : Fin 2) (V : S64x4096.Idx → Elt F .f32) (hV : V = Vx X (org δ c h) p s)
    (fd : Buf (Elt F) ((pieceM δ (sl (h + 1)) p s).view.loc ((nbr δ c : Dev nD) : Thread nD τ))) :
    ((pieceM δ (sl (h + 1)) p s).view.loc ((nbr δ c : Dev nD) : Thread nD τ) ↦[(pieceM δ (sl (h + 1)) p s).view.set]{fullShare}
        ((pieceM δ (sl (h + 1)) p s).view.write (Elt F) fd V Finset.univ))
      ⊢ ((Rd X).payload (rvC δ (nbr δ c) (sl (h + 1)) p s) (h / 3) 0 : sProp 𝕄) := by
  rw [payload_rv]; unfold rvPay Pc ownsTc owns
  iintro H
  iexists ((pieceM δ (sl (h + 1)) p s).view.write (Elt F) fd V Finset.univ)
  isplitr
  · ipureintro; rw [View.read_write_univ, hV, org_nbr δ c ⟨h, hh⟩]
  iexact H

theorem sentN (δ : Dir) (c : Dev nD) (h : ℕ) (h1 : 1 ≤ h) (p s : Fin 2) (fs : Buf (Elt F) ((pieceM δ (sS h) p s).view.loc (c : Thread nD τ)))
    (hfs : (pieceM δ (sS h) p s).view.read (Elt F) fs = Vx X (org δ c h) p s) :
    ((pieceM δ (sS h) p s).view.loc (c : Thread nD τ) ↦[(pieceM δ (sS h) p s).view.set]{fullShare.right} fs)
      ⊢ ((Rd X).payload (sdC δ c (sS h) p s) (sR h) 0 : sProp 𝕄) := by
  have hp : sdPay X δ c h (sS h) p s = (Pc δ c (sS h) p s fullShare.right (Vx X (org δ c h) p s) : sProp 𝕄) := if_neg (by omega)
  rw [payload_sd, hp]; unfold Pc ownsTc owns
  iintro H; iexists fs; isplitr
  · ipureintro; exact hfs
  iexact H
theorem sent0 (δ : Dir) (c : Dev nD) (p s : Fin 2) (fs : Buf (Elt F) ((xpM xM p s).view.loc (c : Thread nD τ)))
    (hfs : (xpM xM p s).view.read (Elt F) fs = Vx X c p s) :
    ((xpM xM p s).view.loc (c : Thread nD τ) ↦[(xpM xM p s).view.set]{qx δ} fs)
      ⊢ ((Rd X).payload (sdC δ c (sS 0) p s) (sR 0) 0 : sProp 𝕄) := by
  have hp : sdPay X δ c 0 (sS 0) p s = (Xp c p s (qx δ) (Vx X c p s) : sProp 𝕄) := if_pos rfl
  rw [payload_sd, hp]; unfold Xp ownsTc owns
  iintro H; iexists fs; isplitr
  · ipureintro; exact hfs
  iexact H

/-- Start the copy of a later hop. -/
theorem wp_sendN (δ : Dir) (c dst : Dev nD) (hdst : dst = nbr δ c) (h : ℕ) (p s : Fin 2) (h1 : 1 ≤ h) (hh : h < 8) (hd : dom δ h p) (l : List Ent) (Φ : PUnit → sProp 𝕄) :
    iprop(Ctx X ∗ Q δ c h p s ∗ SendTok δ c h p s ∗ Ready δ c h p s ∗ Pc δ c (sl h) p s fullShare.right (Vx X (org δ c h) p s)
        ∗ OW c (sendEnt δ h p s :: l))
      ⊢ iprop((Q δ c h p s ∗ CrdS δ c h p s ∗ OW c l -∗ Φ ⟨⟩) -∗ WP c (sendN dst δ (sl h) (sl (h + 1)) p s) Φ) := by
  subst hdst
  have hs : sl h = sS h := (if_neg (by omega)).symm
  unfold Q CrdS OW sendN SendTok Ready slotP Release.slot
  rw [hs]
  iintro ⟨#HC, ⟨Hat, #Hrs⟩, ⟨Ht1, Ht2⟩, ⟨#Hrr, ⟨%fd, Hd⟩⟩, Hs, ⟨%W, HO⟩⟩ Hk
  ihave HI := (ctx_sd X δ c (sS h) p s) $$ HC
  ihave HI' := (ctx_rv X δ (nbr δ c) (sl (h + 1)) p s) $$ HC
  unfold CI
  icases HI with ⟨⟨%κ, #HI⟩, -⟩
  icases HI' with ⟨⟨%κ', #HI'⟩, -⟩
  unfold Pc ownsTc owns
  icases Hs with ⟨%fs, %hfs, Hs⟩
  unfold Prog.lift
  iapply (Rounds.wp_send_pointsTo 𝒱₀ ER (Rd X) (c : Thread nD τ) none (sS := .dma (sSem δ (sS h) p s)) (sem := .dma (rSem δ (sl (h + 1)) p s)) (κ₁ := κ) (κ₂ := κ') (r₁ := sR h) (r₂ := h / 3) (d₁ := 0) (d₂ := 0)
      (fs := fs) (fd := fd) (by rw [duties_sd_hop X δ c p s h hd]; exact Finset.mem_singleton_self _)
      (by rw [duties_rv_hop X δ (nbr δ c) p s h hd]; exact Finset.mem_singleton_self _)
      (2 * h + 2) 0 N (by exact credit_piece ..) (amount_sd X ..) (amount_rv X ..) (obl c l) rfl (W := W)
      (by exact sentN X δ c h h1 p s fs hfs)
      (by exact lands X δ c h hh p s _ hfs fd)) $$ [Hs Hd HO Ht1 Ht2]
  · isplitr; · iexact HI
    isplitr; · iexact HI'
    isplitl [Hs]; · iexact Hs
    isplitl [Hd]; · iexact Hd
    isplitl [HO]; · iexact HO
    isplitl [Ht1]; · iexact Ht1
    isplitr; · iexact Hrs
    isplitl [Ht2]; · iexact Ht2
    iexact Hrr
  iintro ⟨Hcr, HO⟩
  rw [wp_ret]; imodintro
  iapply Hk
  isplitl [Hat]
  · isplitl [Hat]; · iexact Hat
    iexact Hrs
  isplitl [Hcr]; · iexact Hcr
  iexists _; iexact HO

/-- Start the copy of hop 0. -/
theorem wp_send0 (δ : Dir) (c dst : Dev nD) (hdst : dst = nbr δ c) (p s : Fin 2) (l : List Ent) (Φ : PUnit → sProp 𝕄) :
    iprop(Ctx X ∗ Q δ c 0 p s ∗ SendTok δ c 0 p s ∗ Ready δ c 0 p s ∗ Xp c p s (qx δ) (Vx X c p s)
        ∗ OW c (sendEnt δ 0 p s :: l))
      ⊢ iprop((Q δ c 0 p s ∗ CrdS δ c 0 p s ∗ OW c l -∗ Φ ⟨⟩) -∗ WP c (send0 xM dst δ p s) Φ) := by
  subst hdst
  unfold Q CrdS OW send0 SendTok Ready slotP Release.slot
  iintro ⟨#HC, ⟨Hat, #Hrs⟩, ⟨Ht1, Ht2⟩, ⟨#Hrr, ⟨%fd, Hd⟩⟩, Hs, ⟨%W, HO⟩⟩ Hk
  ihave HI := (ctx_sd X δ c (sS 0) p s) $$ HC
  ihave HI' := (ctx_rv X δ (nbr δ c) (sl (0 + 1)) p s) $$ HC
  unfold CI
  icases HI with ⟨⟨%κ, #HI⟩, -⟩
  icases HI' with ⟨⟨%κ', #HI'⟩, -⟩
  unfold Xp ownsTc owns
  icases Hs with ⟨%fs, %hfs, Hs⟩
  unfold Prog.lift
  iapply (Rounds.wp_send_pointsTo 𝒱₀ ER (Rd X) (c : Thread nD τ) none (sS := .dma (sSem δ (sS 0) p s)) (sem := .dma (rSem δ (sl (0 + 1)) p s)) (κ₁ := κ) (κ₂ := κ') (r₁ := sR 0) (r₂ := 0 / 3) (d₁ := 0) (d₂ := 0)
      (fs := fs) (fd := fd) (by rw [duties_sd_hop X δ c p s 0 (Or.inl (by decide))]; exact Finset.mem_singleton_self _)
      (by rw [duties_rv_hop X δ (nbr δ c) p s 0 (Or.inl (by decide))]; exact Finset.mem_singleton_self _)
      (2 * 0 + 2) 0 N (by exact credit_piece ..) (amount_sd X ..) (amount_rv X ..) (obl c l) rfl (W := W)
      (by exact sent0 X δ c p s fs hfs)
      (by exact lands X δ c 0 (by decide) p s _ (hfs.trans (by rw [org_zero])) fd)) $$ [Hs Hd HO Ht1 Ht2]
  · isplitr; · iexact HI
    isplitr; · iexact HI'
    isplitl [Hs]; · iexact Hs
    isplitl [Hd]; · iexact Hd
    isplitl [HO]; · iexact HO
    isplitl [Ht1]; · iexact Ht1
    isplitr; · iexact Hrs
    isplitl [Ht2]; · iexact Ht2
    iexact Hrr
  iintro ⟨Hcr, HO⟩
  rw [wp_ret]; imodintro
  iapply Hk
  isplitl [Hat]
  · isplitl [Hat]; · iexact Hat
    iexact Hrs
  isplitl [Hcr]; · iexact Hcr
  iexists _; iexact HO

end Cert.RingProof

end
-- ==== Proof.Credits.lean ====
/- The handshake, the credits, and how a free slot travels from its reader to its next writer. -/
module

public import proofs.«01_k».proof.Proof.Steps
public import Idealize.SL.BI.BigOpNat

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

variable (X : Dev nD → S256x4096.Idx → Elt F .f32)

/-! ## The handshake -/

/-- The receive buffers of both neighbours that `c` fills, or of `c` itself that they fill. -/
def Own2 (c : Dev nD) : sProp 𝕄 := iprop(Bufs .r c ∗ Bufs .l c)
def Nbr2 (c : Dev nD) : sProp 𝕄 := iprop(Bufs .r (nbr .r c) ∗ Bufs .l (nbr .l c))
/-- What device `c` starts the handshake with. -/
def Hand (c : Dev nD) : sProp 𝕄 :=
  iprop(dutyTok ER (barC (prv .r c)) 0 0 ∗ dutyTok ER (barC (prv .l c)) 0 1 ∗ atPos ER (barC c) 0 ∅ 0 ∗ cred (tallyAt (barC c) 1 2))

theorem pay_bar0 (c : Dev nD) : Bufs .r c ⊢ ((Rd X).payload (barC (prv .r c)) 0 0 : sProp 𝕄) := by
  rw [payload_bar]; unfold barPay; rw [if_pos rfl, nbr_prv]
theorem pay_bar1 (c : Dev nD) : Bufs .l c ⊢ ((Rd X).payload (barC (prv .l c)) 0 1 : sProp 𝕄) := by
  rw [payload_bar]; unfold barPay; rw [if_neg (by decide), nbr_prv]
theorem rest_bar (c : Dev nD) :
    bigSep ((Rd X).duties (barC c) 0 \ ∅) (fun d => (Rd X).payload (barC c) 0 d) ⊢ (Nbr2 c : sProp 𝕄) := by
  rw [Finset.sdiff_empty, duties_bar, bigSep_range_succ, bigSep_range_succ, payload_bar, payload_bar]
  unfold barPay Nbr2
  rw [if_neg (by decide), if_pos rfl]
  iintro ⟨H1, H0, -⟩
  isplitl [H0] <;> iassumption

theorem wp_handshake (c : Dev nD) (l : List Ent) (hl : lb 1 l) (Φ : PUnit → sProp 𝕄) :
    iprop(Ctx X ∗ Hand c ∗ Own2 c ∗ OW c (barEnt .r :: barEnt .l :: l))
      ⊢ iprop((atPos ER (barC c) 1 ∅ 0 ∗ Nbr2 c ∗ OW c l -∗ Φ ⟨⟩) -∗ WP c (handshake (T c)) Φ) := by
  unfold Hand Own2 handshake
  rw [(T_bar c).1, (T_bar c).2]
  simp only [semSignalWord, semWaitWord, Prog.bind_op, Prog.bind_ret]
  iintro ⟨#HC, ⟨Ht0, Ht1, Hat, Hcr⟩, ⟨HBr, HBl⟩, HO⟩ Hk
  unfold OW
  icases HO with ⟨%W, HO⟩
  ihave HI := (ctx_bar X c) $$ HC
  ihave HI0 := (ctx_bar X (prv .r c)) $$ HC
  ihave HI1 := (ctx_bar X (prv .l c)) $$ HC
  unfold CI
  icases HI with ⟨⟨%κ, #HI⟩, -⟩
  icases HI0 with ⟨⟨%κ0, #HI0⟩, #Hr0⟩
  icases HI1 with ⟨⟨%κ1, #HI1⟩, #Hr1⟩
  ihave HM := ((ctx_lev (F := F) X).trans (mayWait (F := F) c (.reg barS) 1 (by omega) l hl)) $$ HC
  iapply (Rounds.wp_signal 𝒱₀ ER (Rd X) (c : Thread nD τ) none (dst := ((prv .r c : Dev nD) : Thread nD τ)) (sem := barS) (κ := κ0) (k' := 1)
      (r := 0) (d := 0) (by rw [duties_bar]; decide) (amount_bar X ..) 1 (O₀ := obl c (barEnt .r :: barEnt .l :: l)) (obl c (barEnt .l :: l)) rfl (W := W)) $$ [HO Ht0 HBr]
  · isplitr; · iexact HI0
    isplitl [HO]; · iexact HO
    isplitl [Ht0]; · iexact Ht0
    isplitl [HBr]; · iapply (pay_bar0 X c); iexact HBr
    iexact Hr0
  iintro HO
  iapply (Rounds.wp_signal 𝒱₀ ER (Rd X) (c : Thread nD τ) none (dst := ((prv .l c : Dev nD) : Thread nD τ)) (sem := barS) (κ := κ1) (k' := 1)
      (r := 0) (d := 1) (by rw [duties_bar]; decide) (amount_bar X ..) 1 (O₀ := obl c (barEnt .l :: l)) (obl c l) rfl (W := W)) $$ [HO Ht1 HBl]
  · isplitr; · iexact HI1
    isplitl [HO]; · iexact HO
    isplitl [Ht1]; · iexact Ht1
    isplitl [HBl]; · iapply (pay_bar1 X c); iexact HBl
    iexact Hr1
  iintro HO
  iapply (Rounds.wp_wait_rest_token 𝒱₀ ER (Rd X) (c : Thread nD τ) none (κ := κ) (k' := 2)
      (by exact wpE_semWait_eq 𝒱₀ (c : Thread nD τ) none Set.univ) (Set.mem_univ _) 1 (O := obl c l) (W := W) (R := 0) (m := 0) (T := ∅)
      (by rw [expect_bar])) $$ [Hcr HO Hat HM]
  · isplitr; · iexact HI
    isplitl [Hcr]; · iexact Hcr
    isplitl [HO]; · iexact HO
    isplitl [HM]; · iexact HM
    iexact Hat
  iintro ⟨HO, Hat, -, Hpay⟩
  rw [wp_ret]; imodintro
  iapply Hk
  isplitl [Hat]; · iexact Hat
  isplitl [Hpay]; · iapply (rest_bar X c); iexact Hpay
  iexists _; iexact HO

/-! ## Credits -/

theorem RelU_mono (δ : Dir) (c : Dev nD) {n m : ℕ} (h : n ≤ m) : RelU δ c m ⊢ (RelU δ c n : sProp 𝕄) := by
  unfold RelU; exact bigSep_subset (Finset.range_subset_range.mpr h)
theorem RelU_succ (δ : Dir) (c : Dev nD) (n : ℕ) : iprop(RelU δ c n ∗ Rel δ c n) ⊢ (RelU δ c (n + 1) : sProp 𝕄) := by
  unfold RelU; rw [bigSep_range_succ]
  iintro ⟨#H1, #H2⟩
  isplitl <;> iassumption
theorem RelU_get (δ : Dir) (c : Dev nD) (n : ℕ) : RelU δ c (n + 1) ⊢ (Rel δ c n : sProp 𝕄) := by
  unfold RelU
  exact bigSep_elim (Finset.mem_range.mpr (Nat.lt_succ_self n))

/-- Signal the credit of hop `h` to the device that sends. -/
theorem wp_creditSig (δ : Dir) (c dst : Dev nD) (hdst : dst = prv δ c) (h : ℕ) (hh : h < 7) (l : List Ent) (Φ : PUnit → sProp 𝕄) :
    iprop(Ctx X ∗ dutyTok ER (crC δ (prv δ c)) 0 h ∗ RelU δ c (h + 1) ∗ OW c (credEnt δ h :: l))
      ⊢ iprop((OW c l -∗ Φ ⟨⟩) -∗ WP c (semSignalWord dst (creditS δ) 1#32) Φ) := by
  subst hdst
  unfold OW semSignalWord
  iintro ⟨#HC, Ht, HR, ⟨%W, HO⟩⟩ Hk
  ihave HI := (ctx_cr X δ (prv δ c)) $$ HC
  unfold CI
  icases HI with ⟨⟨%κ, #HI⟩, #Hr⟩
  iapply (Rounds.wp_signal 𝒱₀ ER (Rd X) (c : Thread nD τ) none (dst := ((prv δ c : Dev nD) : Thread nD τ)) (sem := creditS δ) (κ := κ) (k' := 1)
      (r := 0) (d := h) (by rw [duties_cr]; exact Finset.mem_range.mpr hh) (amount_cr X ..) (2 * max h 2 + 3) (O₀ := obl c (credEnt δ h :: l)) (obl c l) rfl (W := W)) $$ [HO Ht HR]
  · isplitr; · iexact HI
    isplitl [HO]; · iexact HO
    isplitl [Ht]; · iexact Ht
    isplitl [HR]; · rw [payload_cr, nbr_prv]; iexact HR
    iexact Hr
  iintro HO
  rw [wp_ret]; imodintro
  iapply Hk
  iexists _; iexact HO

/-- The credits that `c` has waited for: `n` of them, with what the signals said. -/
def CP (δ : Dir) (c : Dev nD) (n : ℕ) : sProp 𝕄 :=
  iprop(∃ S : Finset ℕ, ⌜S ⊆ Finset.range 7 ∧ n ≤ S.card⌝ ∗ atPos ER (crC δ c) 0 S n ∗ bigSep S (fun j => RelU δ (nbr δ c) (j + 1)))

/-- Of `n` signals one is late enough. -/
theorem late {S : Finset ℕ} {n : ℕ} (h : n + 1 ≤ S.card) : ∃ j ∈ S, n ≤ j := by
  by_contra hc
  have : S ⊆ Finset.range n := fun j hj => Finset.mem_range.mpr (by by_contra h'; exact hc ⟨j, hj, by omega⟩)
  have := Finset.card_le_card this
  rw [Finset.card_range] at this; omega

theorem CP_rel (δ : Dir) (n : ℕ) (c : Dev nD) {S : Finset ℕ} (h : n + 1 ≤ S.card) :
    bigSep S (fun j => RelU δ (nbr δ c) (j + 1)) ⊢ (RelU δ (nbr δ c) (n + 1) : sProp 𝕄) := by
  obtain ⟨j, hj, hn⟩ := late h
  exact (show (bigSep S (fun j => RelU δ (nbr δ c) (j + 1)) : sProp 𝕄) ⊢ RelU δ (nbr δ c) (j + 1) from bigSep_elim hj).trans
    (RelU_mono δ _ (by omega))

/-- Wait for `k` credits more. -/
theorem wp_creditWait (δ : Dir) (c : Dev nD) (m k i : ℕ) (n : BitVec 32) (hn : n.toInt = (k : ℤ)) (hk : 1 ≤ k) (hi : i < 20) (l : List Ent) (hl : lb i l) (Φ : PUnit → sProp 𝕄) :
    iprop(Ctx X ∗ CP δ c m ∗ cred (tallyAt (crC δ c) i k) ∗ OW c l)
      ⊢ iprop((CP δ c (m + k) ∗ RelU δ (nbr δ c) (m + k) ∗ OW c l -∗ Φ ⟨⟩) -∗ WP c (semWaitWord (creditS δ) n) Φ) := by
  unfold OW semWaitWord
  rw [hn]
  iintro ⟨#HC, HP, Hcr, ⟨%W, HO⟩⟩ Hk
  unfold CP
  icases HP with ⟨%S, %hS, Hat, #HR⟩
  ihave HI := (ctx_cr X δ c) $$ HC
  unfold CI
  icases HI with ⟨⟨%κ, #HI⟩, -⟩
  ihave HM := ((ctx_lev (F := F) X).trans (mayWait (F := F) c (.reg (creditS δ)) i hi l hl)) $$ HC
  iapply (Rounds.wp_wait 𝒱₀ ER (Rd X) (c : Thread nD τ) none (κ := κ) (k' := k) (sm := .reg (creditS δ))
      (by exact wpE_semWait_eq 𝒱₀ (c : Thread nD τ) none Set.univ) (Set.mem_univ _) (cr := Finsupp.single i k) (O := obl c l) (W := W) {(.reg (creditS δ), i)} (R := 0) (m := m) (T := S)
      (by rw [Util.total_single]) (image_single_subset (.reg (creditS δ)) i k)) $$ [Hcr HO Hat HM]
  · isplitr; · iexact HI
    isplitl [Hcr]; · iexact Hcr
    isplitl [HO]; · iexact HO
    isplitl [HM]; · iexact HM
    iexact Hat
  iintro %S' ⟨%hS', HO, Hat, Hpay⟩
  obtain ⟨h1, h2, h3⟩ := hS'
  rw [duties_cr] at h2
  rw [duties_cr, expect_cr, Finset.card_sdiff_of_subset h2, Finset.card_range] at h3
  have hc : S'.card ≤ 7 := by have := Finset.card_le_card h2; rwa [Finset.card_range] at this
  have h4 : m + k ≤ S'.card := by omega
  have hj : iprop(bigSep S (fun j => RelU δ (nbr δ c) (j + 1)) ∗ bigSep (S' \ S) (fun j => RelU δ (nbr δ c) (j + 1)))
      ⊢ (bigSep S' (fun j => RelU δ (nbr δ c) (j + 1)) : sProp 𝕄) := Entails.of_eq (bigSep_sdiff_split h1).symm
  ihave #HA : bigSep S' (fun j => RelU δ (nbr δ c) (j + 1)) $$ [Hpay]
  · iapply hj
    isplitr; · iexact HR
    iapply (Entails.of_eq (bigSep_congr fun d _ => payload_cr X δ c 0 d)); iexact Hpay
  rw [wp_ret]; imodintro
  iapply Hk
  isplitl [Hat]
  · iexists S'
    isplitr; · ipureintro; exact ⟨h2, h4⟩
    isplitl [Hat]; · iexact Hat
    iexact HA
  isplitr
  · obtain ⟨n', hn'⟩ : ∃ n', m + k = n' + 1 := ⟨m + k - 1, by omega⟩
    rw [hn'] at h4 ⊢
    iapply (CP_rel δ n' c h4); iexact HA
  iexists _; iexact HO

/-- Close a cell that has no rounds left. -/
theorem close_cr (δ : Dir) (c : Dev nD) : iprop(Ctx X ∗ CP δ c 7) ⊢ (|={Set.univ}=> semVal (crC δ c) 0 : sProp 𝕄) := by
  unfold CP
  iintro ⟨#HC, ⟨%S, %hS, Hat, -⟩⟩
  have hS' : Finset.range 7 ⊆ S := by
    exact (Finset.eq_of_subset_of_card_le hS.1 (by rw [Finset.card_range]; exact hS.2)).ge
  ihave HI := (ctx_cr X δ c) $$ HC
  unfold CI
  icases HI with ⟨⟨%κ, #HI⟩, -⟩
  imod (Rounds.fupd_skip ER (Rd X) (g := crC δ c) (T := S) (R := 0) (by rw [duties_cr]; exact hS') (expect_cr X δ c).symm (Set.mem_univ κ)) $$ [Hat] with ⟨Hat, -⟩
  · isplitr; · iexact HI
    iexact Hat
  iapply (Rounds.cell_close ER (Rd X) (Set.mem_univ κ) (fun h => h) (R := 0 + 1) (done_cr X δ c))
  isplitr; · iexact HI
  iexact Hat
theorem close_bar (c : Dev nD) : iprop(Ctx X ∗ atPos ER (barC c) 1 ∅ 0) ⊢ (|={Set.univ}=> semVal (barC c) 0 : sProp 𝕄) := by
  iintro ⟨#HC, Hat⟩
  ihave HI := (ctx_bar X c) $$ HC
  unfold CI
  icases HI with ⟨⟨%κ, #HI⟩, -⟩
  iapply (Rounds.cell_close ER (Rd X) (Set.mem_univ κ) (fun h => h) (R := 1) (done_bar X c))
  isplitr; · iexact HI
  iexact Hat
theorem close_rv (δ : Dir) (c : Dev nD) (h : ℕ) (p s : Fin 2) (hd : 8 ≤ h ∨ (h = 7 ∧ p ≠ pk δ)) :
    iprop(Ctx X ∗ P δ c h p s) ⊢ (|={Set.univ}=> semVal (rvC δ c (sl (h + 1)) p s) 0 : sProp 𝕄) := by
  unfold P
  iintro ⟨#HC, ⟨Hat, -⟩⟩
  ihave HI := (ctx_rv X δ c (sl (h + 1)) p s) $$ HC
  unfold CI
  icases HI with ⟨⟨%κ, #HI⟩, -⟩
  iapply (Rounds.cell_close ER (Rd X) (Set.mem_univ κ) (fun h => h) (R := h / 3) (done_rv X δ c p s h hd))
  isplitr; · iexact HI
  iexact Hat
theorem close_sd (δ : Dir) (c : Dev nD) (h : ℕ) (p s : Fin 2) (hd : 8 ≤ h ∨ (h = 7 ∧ p ≠ pk δ)) :
    iprop(Ctx X ∗ Q δ c h p s) ⊢ (|={Set.univ}=> semVal (sdC δ c (sS h) p s) 0 : sProp 𝕄) := by
  unfold Q
  iintro ⟨#HC, ⟨Hat, -⟩⟩
  ihave HI := (ctx_sd X δ c (sS h) p s) $$ HC
  unfold CI
  icases HI with ⟨⟨%κ, #HI⟩, -⟩
  iapply (Rounds.cell_close ER (Rd X) (Set.mem_univ κ) (fun h => h) (R := sR h) (done_sd X δ c p s h hd))
  isplitr; · iexact HI
  iexact Hat

/-! ## Slots that travel -/

theorem slotOf_key (δ : Dir) (c : Dev nD) (a : ℕ) (ha : a < 8) (p s : Fin 2) : slotOf (key δ c a p s) = (slotP δ c (sl a) p s : sProp 𝕄) := by
  unfold slotOf key; dsimp only; rw [Nat.mod_eq_of_lt ha]

/-- The reader of arrival `a` gives its slot up. -/
theorem release (δ : Dir) (c : Dev nD) (a : ℕ) (ha : a < 8) (p s : Fin 2) :
    iprop(Ctx X ∗ slotP δ c (sl a) p s ∗ Release.readerAt ES (key δ c a p s) 0)
      ⊢ (|={Set.univ}=> Release.released ES (key δ c a p s) 1 : sProp 𝕄) := by
  iintro ⟨#HC, Hs, Hr⟩
  ihave HI := (ctx_slot X (key δ c a p s)) $$ HC
  unfold SI
  icases HI with ⟨%κ, #HI⟩
  imod (Release.slot_release ES (k := key δ c a p s) (S := slotOf (key δ c a p s)) (Set.mem_univ κ) (by rw [slotOf_key δ c a ha]; exact slotP_excl δ c (sl a) p s) 0) $$ [Hs Hr] with ⟨-, H⟩
  · isplitr; · iexact HI
    isplitl [Hr]; · iexact Hr
    rw [slotOf_key δ c a ha]; iexact Hs
  imodintro
  iexact H

/-- What hop `h` needs to have heard of its receiver; nothing for the first three. -/
def Heard (δ : Dir) (c : Dev nD) (h : ℕ) : sProp 𝕄 := if h < 3 then iprop(emp) else RelU δ (nbr δ c) h
instance Heard_persistent (δ : Dir) (c : Dev nD) (h : ℕ) : BI.Persistent (Heard (F := F) δ c h) := by unfold Heard; split <;> infer_instance
/-- What entitles hop `h` to its receiver's slot: the slot itself at first, later the right to take it. -/
def Cap (δ : Dir) (c : Dev nD) (h : ℕ) (p s : Fin 2) : sProp 𝕄 :=
  if h < 3 then slotP δ (nbr δ c) (sl (h + 1)) p s else Release.writeTok ES (key δ (nbr δ c) (h - 2) p s) 1

theorem A4_get (f : Fin 2 → Fin 2 → sProp 𝕄) : ∀ (p s : Fin 2), A4 f ⊢ f p s
  | 0, 0 => by unfold A4; iintro ⟨H, -, -, -⟩; iexact H
  | 0, 1 => by unfold A4; iintro ⟨-, H, -, -⟩; iexact H
  | 1, 0 => by unfold A4; iintro ⟨-, -, H, -⟩; iexact H
  | 1, 1 => by unfold A4; iintro ⟨-, -, -, H⟩; iexact H

/-- What hop `n + 3` needs of what the signal of hop `n + 2` adds. -/
theorem rel_get (δ : Dir) (c : Dev nD) (n : ℕ) (p s : Fin 2) (hd : dom δ (n + 3) p) :
    Rel δ c (n + 2) ⊢ (iprop(reached ER (rvC δ c (sl (n + 1)) p s) ((n + 3) / 3) ∗ Release.released ES (key δ c (n + 1) p s) 1) : sProp 𝕄) := by
  have hA : RelA δ c (n + 2) p s = (reached ER (rvC δ c (sl (n + 1)) p s) ((n + 3) / 3) : sProp 𝕄) := by
    unfold RelA; rw [show n + 2 + 2 = n + 1 + 3 by omega, sl_add3]
  have hB : RelB δ c (n + 2) p s = (Release.released ES (key δ c (n + 1) p s) 1 : sProp 𝕄) := if_pos ⟨by omega, hd⟩
  rw [← hA, ← hB]; unfold Rel
  exact BIClass.sep_mono (A4_get _ p s) (A4_get _ p s)

/-- The slot for hop `h`'s copy. -/
theorem ready (δ : Dir) (c : Dev nD) (h : ℕ) (p s : Fin 2) (hd : dom δ h p) :
    iprop(Ctx X ∗ Heard δ c h ∗ Cap δ c h p s) ⊢ (|={Set.univ}=> Ready δ c h p s : sProp 𝕄) := by
  have h8 : h < 8 := by rcases hd with h | h <;> omega
  unfold Heard Cap Ready
  by_cases h3 : h < 3
  · rw [if_pos h3, if_pos h3, show h / 3 = 0 by omega]
    iintro ⟨#HC, -, Hs⟩
    ihave HI := (ctx_rv X δ (nbr δ c) (sl (h + 1)) p s) $$ HC
    icases HI with ⟨-, HI⟩
    imodintro
    isplitl [HI] <;> iassumption
  · rw [if_neg h3, if_neg h3]
    obtain ⟨n, rfl⟩ : ∃ n, h = n + 3 := ⟨h - 3, by omega⟩
    rw [show n + 3 - 2 = n + 1 by omega, show n + 3 + 1 = n + 1 + 3 by omega]
    iintro ⟨#HC, #HR, Ht⟩
    ihave HR' := ((RelU_get δ (nbr δ c) (n + 2)).trans (rel_get δ (nbr δ c) n p s hd)) $$ HR
    icases HR' with ⟨HA', HB'⟩
    ihave HI := (ctx_slot X (key δ (nbr δ c) (n + 1) p s)) $$ HC
    unfold SI
    icases HI with ⟨%κ, #HI⟩
    imod (Release.slot_take ES (Set.mem_univ κ) 1) $$ [HB' Ht] with Hs
    · isplitr; · iexact HI
      isplitl [HB'] <;> iassumption
    imodintro
    rw [sl_add3]
    isplitl [HA']; · iexact HA'
    rw [← slotOf_key δ (nbr δ c) (n + 1) (by omega)]; iexact Hs

end Cert.RingProof

end
-- ==== Proof.Gemm.lean ====
/- The products: what a load reads of the pieces held, and what the stores leave in the output.

   `G` is the output of a device, by rows: block `d` of 256 rows is the product of device `d`'s rows with the
   device's columns, computed by 128-row parts, and by 64-row pieces for the block opposite. `OutSt` says which
   64-row blocks of the output hold `G` already. -/
module

public import proofs.«01_k».proof.Proof.Steps
public import Idealize.ShloMosaic.Lib.Pipeline.Value
public import Idealize.ShloMosaic.Lib.ValueLayout

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ

variable (X : Dev nD → S256x4096.Idx → Elt F .f32) (Wv : Dev nD → S4096x128.Idx → Elt F .f32)

abbrev Blk : Type := Dev nD × Fin 2 × Fin 2
/-- The 64-row block of an output row. -/
def blk (i : S4096x128.Idx) : Blk := (⟨(i 0).val / 256 % 16, Nat.mod_lt _ (by decide)⟩, fin2 ((i 0).val / 128), fin2 ((i 0).val / 64))

/-- The rows of part `p` of device `d`'s block. -/
def Vp (d : Dev nD) (p : Fin 2) : S128x4096.Idx → Elt F .f32 :=
  fun i => X d ((Rect.unit (s := S256x4096) ![128 * p.val, 0] S128x4096.size (inbXF p)).emb i)

/-- The output of device `c`. -/
def G (c : Dev nD) : S4096x128.Idx → Elt F .f32 := fun i =>
  if (blk i).1 = org .r c 8 then
    mm64 (Vx X (blk i).1 (blk i).2.1 (blk i).2.2) (Wv c) (ix2 (⟨(i 0).val % 64, Nat.mod_lt _ (by decide)⟩ : Fin 64) (i 1))
  else mm128 (Vp X (blk i).1 (blk i).2.1) (Wv c) (ix2 (⟨(i 0).val % 128, Nat.mod_lt _ (by decide)⟩ : Fin 128) (i 1))

/-! ## What the stores leave -/

set_option maxHeartbeats 1000000 in
theorem store128 (c d : Dev nD) (p : Fin 2) (hd : d ≠ org .r c 8) (off : Fin 2 → Nat) (inb : ∀ a, off a + S128x128.size a ≤ S4096x128.size a)
    (hoff : off = ![256 * d.val + 128 * p.val, 0]) (D : List Blk) (f : S4096x128.Idx → Elt F .f32) (hf : ∀ i, blk i ∈ D → f i = G X Wv c i) :
    ∀ i, blk i ∈ (d, p, 0) :: (d, p, 1) :: D →
      (oM.access (Rect.unit (s := S4096x128) off S128x128.size inb)).write (Elt F) f (mm128 (Vp X d p) (Wv c)) Finset.univ i = G X Wv c i := by
  subst hoff
  intro i hi
  have hd16 : d.val < 16 := d.isLt
  have hp2 : p.val < 2 := p.isLt
  have hi0 : (i 0).val < 4096 := (i 0).isLt
  by_cases hm : i ∈ (Rect.unit (s := S4096x128) ![256 * d.val + 128 * p.val, 0] S128x128.size inb).set
  · rw [← Rect.map_emb_univ, Finset.mem_map] at hm
    obtain ⟨j, -, rfl⟩ := hm
    refine (View.read_slice_write_emb (v := (oM : Memref sig .tc .vmem S4096x128 .f32).view) _ f (mm128 (Vp X d p) (Wv c)) (Finset.mem_univ j)).trans ?_
    have e0 : (((Rect.unit (s := S4096x128) ![256 * d.val + 128 * p.val, 0] S128x128.size inb).emb j) 0).val = 256 * d.val + 128 * p.val + (j 0).val := by
      rw [Rect.emb_apply]; show 256 * d.val + 128 * p.val + 1 * (j 0).val = _; omega
    have e1 : (((Rect.unit (s := S4096x128) ![256 * d.val + 128 * p.val, 0] S128x128.size inb).emb j) 1).val = (j 1).val := by
      rw [Rect.emb_apply]; show 0 + 1 * (j 1).val = _; omega
    have hj : (j 0).val < 128 := (j 0).isLt
    have hb1 : (blk ((Rect.unit (s := S4096x128) ![256 * d.val + 128 * p.val, 0] S128x128.size inb).emb j)).1 = d :=
      Fin.ext (by show _ / 256 % 16 = d.val; rw [e0]; omega)
    have hb2 : (blk ((Rect.unit (s := S4096x128) ![256 * d.val + 128 * p.val, 0] S128x128.size inb).emb j)).2.1 = p :=
      Fin.ext (by show _ / 128 % 2 = p.val; rw [e0]; omega)
    unfold G
    rw [hb1, hb2, if_neg hd]
    refine congrArg (mm128 (Vp X d p) (Wv c)) ?_
    funext a
    match a with
    | ⟨0, _⟩ => exact Fin.ext ((show (j 0).val = (256 * d.val + 128 * p.val + (j 0).val) % 128 by omega).trans (congrArg (· % 128) e0).symm)
    | ⟨1, _⟩ => exact Fin.ext e1.symm
  · have hm' : i ∉ Finset.univ.map (Rect.unit (s := S4096x128) ![256 * d.val + 128 * p.val, 0] S128x128.size inb).emb := by rwa [Rect.map_emb_univ]
    refine (View.read_slice_write_of_not_mem (v := (oM : Memref sig .tc .vmem S4096x128 .f32).view) _ f (mm128 (Vp X d p) (Wv c)) Finset.univ hm').trans ?_
    refine hf i ?_
    have hnb : ∀ s, blk i ≠ (d, p, s) := fun s h => hm (by
      rw [Rect.mem_set_unit]
      have h1 : (i 0).val / 256 % 16 = d.val := congrArg (fun b : Blk => b.1.val) h
      have h2 : (i 0).val / 128 % 2 = p.val := congrArg (fun b : Blk => b.2.1.val) h
      intro a
      match a with
      | ⟨0, _⟩ => show 256 * d.val + 128 * p.val ≤ (i 0).val ∧ (i 0).val < 256 * d.val + 128 * p.val + 128; omega
      | ⟨1, _⟩ => have := (i 1).isLt; exact ⟨Nat.zero_le _, by show (i 1).val < 0 + 128; exact Nat.lt_of_lt_of_le this (by decide)⟩)
    rcases List.mem_cons.mp hi with h | h
    · exact absurd h (hnb 0)
    · rcases List.mem_cons.mp h with h | h
      · exact absurd h (hnb 1)
      · exact h

theorem store64 (c d : Dev nD) (p s : Fin 2) (hd : d = org .r c 8) (off : Fin 2 → Nat) (inb : ∀ a, off a + S64x128.size a ≤ S4096x128.size a)
    (hoff : off = ![256 * d.val + 128 * p.val + 64 * s.val, 0]) (D : List Blk) (f : S4096x128.Idx → Elt F .f32) (hf : ∀ i, blk i ∈ D → f i = G X Wv c i) :
    ∀ i, blk i ∈ (d, p, s) :: D →
      (oM.access (Rect.unit (s := S4096x128) off S64x128.size inb)).write (Elt F) f (mm64 (Vx X d p s) (Wv c)) Finset.univ i = G X Wv c i := by
  subst hoff
  intro i hi
  have hd16 : d.val < 16 := d.isLt
  have hp2 : p.val < 2 := p.isLt
  have hs2 : s.val < 2 := s.isLt
  have hi0 : (i 0).val < 4096 := (i 0).isLt
  by_cases hm : i ∈ (Rect.unit (s := S4096x128) ![256 * d.val + 128 * p.val + 64 * s.val, 0] S64x128.size inb).set
  · rw [← Rect.map_emb_univ, Finset.mem_map] at hm
    obtain ⟨j, -, rfl⟩ := hm
    refine (View.read_slice_write_emb (v := (oM : Memref sig .tc .vmem S4096x128 .f32).view) _ f (mm64 (Vx X d p s) (Wv c)) (Finset.mem_univ j)).trans ?_
    have e0 : (((Rect.unit (s := S4096x128) ![256 * d.val + 128 * p.val + 64 * s.val, 0] S64x128.size inb).emb j) 0).val = 256 * d.val + 128 * p.val + 64 * s.val + (j 0).val := by
      rw [Rect.emb_apply]; show 256 * d.val + 128 * p.val + 64 * s.val + 1 * (j 0).val = _; omega
    have e1 : (((Rect.unit (s := S4096x128) ![256 * d.val + 128 * p.val + 64 * s.val, 0] S64x128.size inb).emb j) 1).val = (j 1).val := by
      rw [Rect.emb_apply]; show 0 + 1 * (j 1).val = _; omega
    have hj : (j 0).val < 64 := (j 0).isLt
    have hb : blk ((Rect.unit (s := S4096x128) ![256 * d.val + 128 * p.val + 64 * s.val, 0] S64x128.size inb).emb j) = (d, p, s) :=
      Prod.ext (Fin.ext (by show _ / 256 % 16 = d.val; rw [e0]; omega))
        (Prod.ext (Fin.ext (by show _ / 128 % 2 = p.val; rw [e0]; omega)) (Fin.ext (by show _ / 64 % 2 = s.val; rw [e0]; omega)))
    unfold G
    rw [hb, if_pos hd]
    refine congrArg (mm64 (Vx X d p s) (Wv c)) ?_
    funext a
    match a with
    | ⟨0, _⟩ => exact Fin.ext ((show (j 0).val = (256 * d.val + 128 * p.val + 64 * s.val + (j 0).val) % 64 by omega).trans (congrArg (· % 64) e0).symm)
    | ⟨1, _⟩ => exact Fin.ext e1.symm
  · have hm' : i ∉ Finset.univ.map (Rect.unit (s := S4096x128) ![256 * d.val + 128 * p.val + 64 * s.val, 0] S64x128.size inb).emb := by rwa [Rect.map_emb_univ]
    refine (View.read_slice_write_of_not_mem (v := (oM : Memref sig .tc .vmem S4096x128 .f32).view) _ f (mm64 (Vx X d p s) (Wv c)) Finset.univ hm').trans ?_
    refine hf i ((List.mem_cons.mp hi).resolve_left fun h => hm ?_)
    rw [Rect.mem_set_unit]
    have h1 : (i 0).val / 256 % 16 = d.val := congrArg (fun b : Blk => b.1.val) h
    have h2 : (i 0).val / 128 % 2 = p.val := congrArg (fun b : Blk => b.2.1.val) h
    have h3 : (i 0).val / 64 % 2 = s.val := congrArg (fun b : Blk => b.2.2.val) h
    intro a
    match a with
    | ⟨0, _⟩ => show 256 * d.val + 128 * p.val + 64 * s.val ≤ (i 0).val ∧ (i 0).val < 256 * d.val + 128 * p.val + 64 * s.val + 64; omega
    | ⟨1, _⟩ => have := (i 1).isLt; exact ⟨Nat.zero_le _, by show (i 1).val < 0 + 128; exact Nat.lt_of_lt_of_le this (by decide)⟩

/-! ## What the loads read -/

/-- The 128-row part of a slot whose pieces hold device `d`'s rows. -/
theorem readPart (δ : Dir) (k : Fin 3) (d : Dev nD) (p : Fin 2) (f : (bufM δ).view.ty.Contents (Elt F))
    (h : ∀ s, (pieceM δ k p s).view.read (Elt F) f = Vx X d p s) :
    shapeCast S128x4096 ((bufM δ).view.readAt (Elt F) (Rect.unit (s := S3x2x128x4096) ![k.val, p.val, 0, 0] S1x1x128x4096.size (inbF k p)).toLoadRect f)
      shapeCasts_S1x1x128x4096_S128x4096 = Vp X d p := by
  funext j
  obtain ⟨x, y, rfl⟩ : ∃ (x : Fin 128) (y : Fin 4096), j = ix2 x y := ⟨j 0, j 1, eq_ix2 j⟩
  have hx : x.val < 128 := x.isLt
  have hs := congrFun (h (fin2 (x.val / 64))) (ix2 (⟨x.val % 64, Nat.mod_lt _ (by decide)⟩ : Fin 64) y)
  have hfs : (fin2 (x.val / 64)).val = x.val / 64 := Nat.mod_eq_of_lt (by omega)
  unfold pieceM at hs
  rw [Memref.read_squeeze_slice (hc := shapeCasts_S1x1x64x4096_S64x4096)] at hs
  unfold shapeCast at hs ⊢
  rw [reshapeEquiv_ix2_11ab] at hs ⊢
  have hl : ∀ i i' : S3x2x128x4096.Idx, i = i' → (bufM δ).view.read (Elt F) f i = (bufM δ).view.read (Elt F) f i' := fun i i' e => e ▸ rfl
  refine (hl _ _ ?_).trans (hs.trans ?_)
  · funext a
    match a with
    | ⟨0, _⟩ => rfl
    | ⟨1, _⟩ => rfl
    | ⟨2, _⟩ => exact Fin.ext (by show 0 + 1 * x.val = 64 * (fin2 (x.val / 64)).val + 1 * (x.val % 64); rw [hfs]; omega)
    | ⟨3, _⟩ => rfl
  · unfold Vx Vp
    refine congrArg (X d) ?_
    funext a
    match a with
    | ⟨0, _⟩ => exact Fin.ext (by show 128 * p.val + 64 * (fin2 (x.val / 64)).val + 1 * (x.val % 64) = 128 * p.val + 1 * x.val; rw [hfs]; omega)
    | ⟨1, _⟩ => rfl

/-- The elements of a piece. -/
theorem piece_set (δ : Dir) (k : Fin 3) (p s : Fin 2) : (pieceM δ k p s).view.set
    = (Rect.unit (s := S3x2x128x4096) ![k.val, p.val, 64 * s.val, 0] S1x1x64x4096.size (inbP k p s)).set.map (bufM δ).view.emb := by
  unfold pieceM
  exact (View.set_reshape _ _).trans (View.set_slice _ _)
theorem piece_disj (δ : Dir) (k k' : Fin 3) (p p' s s' : Fin 2) (h : (k, p, s) ≠ (k', p', s')) :
    Disjoint (pieceM δ k p s).view.set (pieceM δ k' p' s').view.set := by
  rw [piece_set, piece_set]
  refine (Finset.disjoint_map _).mpr (Finset.disjoint_left.mpr fun i h1 h2 => h ?_)
  rw [Rect.mem_set_unit] at h1 h2
  have a0 : k.val ≤ (i 0).val ∧ (i 0).val < k.val + 1 := h1 0
  have b0 : k'.val ≤ (i 0).val ∧ (i 0).val < k'.val + 1 := h2 0
  have a1 : p.val ≤ (i 1).val ∧ (i 1).val < p.val + 1 := h1 1
  have b1 : p'.val ≤ (i 1).val ∧ (i 1).val < p'.val + 1 := h2 1
  have a2 : 64 * s.val ≤ (i 2).val ∧ (i 2).val < 64 * s.val + 64 := h1 2
  have b2 : 64 * s'.val ≤ (i 2).val ∧ (i 2).val < 64 * s'.val + 64 := h2 2
  exact Prod.ext (Fin.ext (show k.val = k'.val by omega)) (Prod.ext (Fin.ext (show p.val = p'.val by omega)) (Fin.ext (show s.val = s'.val by omega)))
theorem part_cover (δ : Dir) (k : Fin 3) (p : Fin 2) :
    (bufM δ).view.setOn (Rect.unit (s := S3x2x128x4096) ![k.val, p.val, 0, 0] S1x1x128x4096.size (inbF k p)).toLoadRect.set
      ⊆ (pieceM δ k p 0).view.set ∪ (pieceM δ k p 1).view.set := by
  rw [piece_set, piece_set, ← Finset.map_union]
  refine Finset.map_subset_map.mpr fun i hi => ?_
  rw [Rect.mem_set_unit] at hi
  have a0 : k.val ≤ (i 0).val ∧ (i 0).val < k.val + 1 := hi 0
  have a1 : p.val ≤ (i 1).val ∧ (i 1).val < p.val + 1 := hi 1
  have a2 : 0 ≤ (i 2).val ∧ (i 2).val < 0 + 128 := hi 2
  have a3 : 0 ≤ (i 3).val ∧ (i 3).val < 0 + 4096 := hi 3
  have key : ∀ s : Fin 2, 64 * s.val ≤ (i 2).val ∧ (i 2).val < 64 * s.val + 64 →
      i ∈ (Rect.unit (s := S3x2x128x4096) ![k.val, p.val, 64 * s.val, 0] S1x1x64x4096.size (inbP k p s)).set := fun s hs => by
    rw [Rect.mem_set_unit]
    intro a
    match a with
    | ⟨0, _⟩ => exact a0
    | ⟨1, _⟩ => exact a1
    | ⟨2, _⟩ => exact hs
    | ⟨3, _⟩ => exact a3
  by_cases h : (i 2).val < 64
  · exact Finset.mem_union_left _ (key 0 ⟨Nat.zero_le _, h⟩)
  · exact Finset.mem_union_right _ (key 1 ⟨by show 64 * 1 ≤ _; omega, by show _ < 64 * 1 + 64; omega⟩)

/-! ## The programs -/

/-- The device's columns, the own block and the output, as the body holds them. -/
def WSt (c : Dev nD) : sProp 𝕄 := iprop(((c : Thread nD τ).loc cc0_stg1_0) ↦{fullShare} (Wv c))
def XK (c : Dev nD) : sProp 𝕄 := iprop(((c : Thread nD τ).loc cc0_stg0_0) ↦{fullShare.left} (X c))
def OutSt (c : Dev nD) (D : List Blk) : sProp 𝕄 :=
  iprop(∃ Y : S4096x128.Idx → Elt F .f32, ⌜∀ i, blk i ∈ D → Y i = G X Wv c i⌝ ∗ (((c : Thread nD τ).loc cc0_stg2_0) ↦{fullShare} Y))

theorem readW (f : S4096x128.Idx → Elt F .f32) :
    (wM : Memref sig .tc .vmem S4096x128 .f32).view.readAt (Elt F) (Rect.unit (s := S4096x128) ![0, 0] S4096x128.size inbW).toLoadRect f = f :=
  Memref.readAt_unit_zero (Elt F) cc0_stg1_0 (by funext a; fin_cases a <;> rfl) _ f

theorem wp_mulStore (c d : Dev nD) (p : Fin 2) (hd : d ≠ org .r c 8) (off : Fin 2 → Nat) (inb : ∀ a, off a + S128x128.size a ≤ S4096x128.size a)
    (hoff : off = ![256 * d.val + 128 * p.val, 0]) (D : List Blk) (Φ : PUnit → sProp 𝕄) :
    iprop(WSt Wv c ∗ OutSt X Wv c D)
      ⊢ iprop((WSt Wv c ∗ OutSt X Wv c ((d, p, 0) :: (d, p, 1) :: D) -∗ Φ ⟨⟩) -∗ WP c (mulStore wM oM off inb (Vp X d p)) Φ) := by
  unfold WSt OutSt mulStore
  simp only [Prog.lift, Prog.bind_op, Prog.bind_ret]
  iintro ⟨Hw, ⟨%Y, %hY, Ho⟩⟩ Hk
  iapply (wp_load 𝒱₀ (c : Thread nD τ) none Set.univ (m := wM) (Finset.subset_univ _)) $$ Hw; iintro Hw
  rw [readW]
  iapply (wp_load 𝒱₀ (c : Thread nD τ) none Set.univ (m := oM) (Finset.subset_univ _)) $$ Ho; iintro Ho
  iapply (wp_store 𝒱₀ (c : Thread nD τ) none Set.univ (m := oM) (r := Rect.unit (s := S4096x128) off S128x128.size inb) (Mk := Finset.univ) (Finset.subset_univ _)) $$ Ho; iintro Ho
  rw [wp_ret]; imodintro
  iapply Hk
  isplitl [Hw]; · iexact Hw
  iexists _
  isplitr
  · ipureintro
    have h := store128 X Wv c d p hd off inb hoff D Y hY
    exact h
  iexact Ho

theorem wp_mulStore64 (c : Dev nD) (p s : Fin 2) (off : Fin 2 → Nat) (inb : ∀ a, off a + S64x128.size a ≤ S4096x128.size a)
    (hoff : off = ![256 * (org .r c 8).val + 128 * p.val + 64 * s.val, 0]) (D : List Blk) (Φ : PUnit → sProp 𝕄) :
    iprop(WSt Wv c ∗ OutSt X Wv c D)
      ⊢ iprop((WSt Wv c ∗ OutSt X Wv c ((org .r c 8, p, s) :: D) -∗ Φ ⟨⟩) -∗ WP c (mulStore64 wM oM off inb (Vx X (org .r c 8) p s)) Φ) := by
  unfold WSt OutSt mulStore64
  simp only [Prog.lift, Prog.bind_op, Prog.bind_ret]
  iintro ⟨Hw, ⟨%Y, %hY, Ho⟩⟩ Hk
  iapply (wp_load 𝒱₀ (c : Thread nD τ) none Set.univ (m := wM) (Finset.subset_univ _)) $$ Hw; iintro Hw
  rw [readW]
  iapply (wp_load 𝒱₀ (c : Thread nD τ) none Set.univ (m := oM) (Finset.subset_univ _)) $$ Ho; iintro Ho
  iapply (wp_store 𝒱₀ (c : Thread nD τ) none Set.univ (m := oM) (r := Rect.unit (s := S4096x128) off S64x128.size inb) (Mk := Finset.univ) (Finset.subset_univ _)) $$ Ho; iintro Ho
  rw [wp_ret]; imodintro
  iapply Hk
  isplitl [Hw]; · iexact Hw
  iexists _
  isplitr
  · ipureintro
    have h := store64 X Wv c _ p s rfl off inb hoff D Y hY
    exact h
  iexact Ho

theorem wp_gemmX (c : Dev nD) (p : Fin 2) (hd : c ≠ org .r c 8) (off : Fin 2 → Nat) (inb : ∀ a, off a + S128x128.size a ≤ S4096x128.size a)
    (hoff : off = ![256 * c.val + 128 * p.val, 0]) (D : List Blk) (Φ : PUnit → sProp 𝕄) :
    iprop(XK X c ∗ WSt Wv c ∗ OutSt X Wv c D)
      ⊢ iprop((XK X c ∗ WSt Wv c ∗ OutSt X Wv c ((c, p, 0) :: (c, p, 1) :: D) -∗ Φ ⟨⟩) -∗ WP c (gemmX xM wM oM off inb p) Φ) := by
  unfold XK gemmX
  simp only [Prog.lift, Prog.bind_op, Prog.bind_ret]
  iintro ⟨Hx, Hw, Ho⟩ Hk
  iapply (wp_load 𝒱₀ (c : Thread nD τ) none Set.univ (m := xM) (Finset.subset_univ _)) $$ Hx; iintro Hx
  rw [shapeCast_self, show (xM : Memref sig .tc .vmem S256x4096 .f32).view.readAt (Elt F) (Rect.unit (s := S256x4096) ![128 * p.val, 0] S128x4096.size (inbXF p)).toLoadRect (X c) = Vp X c p from rfl]
  iapply (wp_mulStore X Wv c c p hd off inb hoff D Φ) $$ [Hw Ho]
  · isplitl [Hw] <;> iassumption
  iintro ⟨Hw, Ho⟩
  iapply Hk
  isplitl [Hx]; · iexact Hx
  isplitl [Hw] <;> iassumption

theorem piece_congr (δ : Dir) (k : Fin 3) (p s : Fin 2) (f g : (bufM δ).view.ty.Contents (Elt F)) (h : ∀ i ∈ (pieceM δ k p s).view.set, f i = g i) :
    (pieceM δ k p s).view.read (Elt F) f = (pieceM δ k p s).view.read (Elt F) g := View.read_congr h
/-- Two disjoint areas held at one share, as one area. -/
theorem two_areas {ℓ : Loc nD τ sig} {A B : Finset (Idx ℓ)} (h : Disjoint A B) (q : PosShare TreeShare) (f g : Buf (Elt F) ℓ) :
    iprop((ℓ ↦[A]{q} f) ∗ (ℓ ↦[B]{q} g)) ⊢ iprop(∃ b : Buf (Elt F) ℓ, ⌜(∀ i ∈ A, b i = f i) ∧ ∀ i ∈ B, b i = g i⌝ ∗ (ℓ ↦[A ∪ B]{q} b) : sProp 𝕄) := by
  iintro H
  ihave H := (pointsTo_join h) $$ H
  iexists (B.piecewise g f)
  isplitr
  · ipureintro
    exact ⟨fun i hi => Finset.piecewise_eq_of_notMem _ _ _ (Finset.disjoint_left.mp h hi), fun i hi => Finset.piecewise_eq_of_mem _ _ _ hi⟩
  iexact H
/-- A piece held, seen in the whole buffer. -/
theorem Pc_out (δ : Dir) (c : Dev nD) (k : Fin 3) (p s : Fin 2) (q : PosShare TreeShare) (V : S64x4096.Idx → Elt F .f32) :
    (Pc δ c k p s q V : sProp 𝕄) ⊢ iprop(∃ f : (bufM δ).view.ty.Contents (Elt F), ⌜(pieceM δ k p s).view.read (Elt F) f = V⌝
      ∗ ((bufM δ).view.loc (c : Thread nD τ) ↦[(pieceM δ k p s).view.set]{q} f)) := Entails.rfl
theorem Pc_in (δ : Dir) (c : Dev nD) (k : Fin 3) (p s : Fin 2) (q : PosShare TreeShare) (V : S64x4096.Idx → Elt F .f32) (f : (bufM δ).view.ty.Contents (Elt F))
    (h : (pieceM δ k p s).view.read (Elt F) f = V) :
    ((bufM δ).view.loc (c : Thread nD τ) ↦[(pieceM δ k p s).view.set]{q} f) ⊢ (Pc δ c k p s q V : sProp 𝕄) := by
  unfold Pc ownsTc owns
  iintro H
  iexists f
  isplitr; · ipureintro; exact h
  iexact H

theorem wp_gemmB (δ : Dir) (k : Fin 3) (c d : Dev nD) (p : Fin 2) (q : PosShare TreeShare) (hd : d ≠ org .r c 8) (off : Fin 2 → Nat) (inb : ∀ a, off a + S128x128.size a ≤ S4096x128.size a)
    (hoff : off = ![256 * d.val + 128 * p.val, 0]) (D : List Blk) (Φ : PUnit → sProp 𝕄) :
    iprop(Pc δ c k p 0 q (Vx X d p 0) ∗ Pc δ c k p 1 q (Vx X d p 1) ∗ WSt Wv c ∗ OutSt X Wv c D)
      ⊢ iprop((Pc δ c k p 0 q (Vx X d p 0) ∗ Pc δ c k p 1 q (Vx X d p 1) ∗ WSt Wv c ∗ OutSt X Wv c ((d, p, 0) :: (d, p, 1) :: D) -∗ Φ ⟨⟩)
        -∗ WP c (gemmB wM oM off inb δ k p) Φ) := by
  unfold gemmB
  simp only [Prog.lift, Prog.bind_op, Prog.bind_ret]
  iintro ⟨H0, H1, Hw, Ho⟩ Hk
  ihave H0 := (Pc_out δ c k p 0 q _) $$ H0; icases H0 with ⟨%f0, %h0, H0⟩
  ihave H1 := (Pc_out δ c k p 1 q _) $$ H1; icases H1 with ⟨%f1, %h1, H1⟩
  have hdj : Disjoint (pieceM δ k p 0).view.set (pieceM δ k p 1).view.set := piece_disj δ k k p p 0 1 (fun h => absurd (congrArg (fun b : Fin 3 × Fin 2 × Fin 2 => b.2.2.val) h) Nat.zero_ne_one)
  ihave H := (two_areas (ℓ := (bufM δ).view.loc (c : Thread nD τ)) hdj q f0 f1) $$ [H0 H1]
  · isplitl [H0]; · iexact H0
    iexact H1
  icases H with ⟨%b, %hb, H⟩
  have hr0 : (pieceM δ k p 0).view.read (Elt F) b = Vx X d p 0 := (piece_congr δ k p 0 b f0 hb.1).trans h0
  have hr1 : (pieceM δ k p 1).view.read (Elt F) b = Vx X d p 1 := (piece_congr δ k p 1 b f1 hb.2).trans h1
  iapply (wp_load 𝒱₀ (c : Thread nD τ) none Set.univ (m := bufM δ) (part_cover δ k p)) $$ H; iintro H
  rw [readPart X δ k d p _ (Fin.forall_fin_two.mpr ⟨hr0, hr1⟩)]
  iapply (wp_mulStore X Wv c d p hd off inb hoff D Φ) $$ [Hw Ho]
  · isplitl [Hw] <;> iassumption
  iintro ⟨Hw, Ho⟩
  iapply Hk
  ihave H := (pointsTo_union (ℓ := (bufM δ).view.loc (c : Thread nD τ)) hdj).1 $$ H
  icases H with ⟨H0, H1⟩
  isplitl [H0]
  · iapply (Pc_in δ c k p 0 q _ _ hr0) $$ H0
  isplitl [H1]
  · iapply (Pc_in δ c k p 1 q _ _ hr1) $$ H1
  isplitl [Hw] <;> iassumption

theorem wp_gemmP (δ : Dir) (k : Fin 3) (c : Dev nD) (p s : Fin 2) (q : PosShare TreeShare) (off : Fin 2 → Nat) (inb : ∀ a, off a + S64x128.size a ≤ S4096x128.size a)
    (hoff : off = ![256 * (org .r c 8).val + 128 * p.val + 64 * s.val, 0]) (D : List Blk) (Φ : PUnit → sProp 𝕄) :
    iprop(Pc δ c k p s q (Vx X (org .r c 8) p s) ∗ WSt Wv c ∗ OutSt X Wv c D)
      ⊢ iprop((Pc δ c k p s q (Vx X (org .r c 8) p s) ∗ WSt Wv c ∗ OutSt X Wv c ((org .r c 8, p, s) :: D) -∗ Φ ⟨⟩)
        -∗ WP c (gemmP wM oM off inb δ k p s) Φ) := by
  unfold gemmP
  simp only [Prog.lift, Prog.bind_op, Prog.bind_ret]
  iintro ⟨H, Hw, Ho⟩ Hk
  ihave H := (Pc_out δ c k p s q _) $$ H; icases H with ⟨%f0, %h0, H⟩
  iapply (wp_load 𝒱₀ (c : Thread nD τ) none Set.univ (m := bufM δ) (piece_set δ k p s).ge) $$ H; iintro H
  have hr : shapeCast S64x4096 ((bufM δ).view.readAt (Elt F) (Rect.unit (s := S3x2x128x4096) ![k.val, p.val, 64 * s.val, 0] S1x1x64x4096.size (inbP k p s)).toLoadRect f0)
      shapeCasts_S1x1x64x4096_S64x4096 = Vx X (org .r c 8) p s := h0
  rw [hr]
  iapply (wp_mulStore64 X Wv c p s off inb hoff D Φ) $$ [Hw Ho]
  · isplitl [Hw] <;> iassumption
  iintro ⟨Hw, Ho⟩
  iapply Hk
  isplitl [H]
  · iapply (Pc_in δ c k p s q _ _ h0) $$ H
  isplitl [Hw] <;> iassumption

end Cert.RingProof

end
-- ==== Proof.Piece.lean ====
/- One piece of 64 rows on its way: what a device holds for it before a hop, after the wait, after it is passed on
   and after the drain, and the steps from one to the next. -/
module

public import proofs.«01_k».proof.Proof.Credits
public import proofs.«01_k».proof.Proof.Gemm

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ

variable (X : Dev nD → S256x4096.Idx → Elt F .f32) (Wv : Dev nD → S4096x128.Idx → Elt F .f32)

/-! ## The states of a piece -/

/-- The reader's count for arrival `n`. -/
def Rdr (δ : Dir) (c : Dev nD) (n : ℕ) (p s : Fin 2) : sProp 𝕄 := Release.readerAt ES (key δ c n p s) 0
/-- What hop `i` is sent with, and what its arrival is waited for with. -/
def Tok (δ : Dir) (c : Dev nD) (p s : Fin 2) (i : ℕ) : sProp 𝕄 :=
  if dom δ i p then iprop(SendTok δ c i p s ∗ Cap δ c i p s ∗ CrdR δ c i p s ∗ Rdr δ c i p s) else iprop(emp)
/-- All that for hops `n` and later. -/
def Fut (δ : Dir) (c : Dev nD) (n : ℕ) (p s : Fin 2) : sProp 𝕄 := bigSep (Finset.Ico n 8) (Tok δ c p s)
/-- The slot of arrival `n`, whole, once it is drained. -/
def Own (δ : Dir) (c : Dev nD) (n : ℕ) (p s : Fin 2) : sProp 𝕄 := if n = 0 then iprop(emp) else slotP δ c (sl n) p s
/-- The slot that is never filled again, from hop 6 on. -/
def Kp (δ : Dir) (c : Dev nD) (r : ℕ) (p s : Fin 2) : sProp 𝕄 := if r = 6 ∧ p ≠ pk δ then slotP δ c 2 p s else iprop(emp)

def Ps (δ : Dir) (c : Dev nD) (r : ℕ) (p s : Fin 2) : sProp 𝕄 := iprop(P δ c r p s ∗ P δ c (r + 1) p s ∗ P δ c (r + 2) p s)
def Qs (δ : Dir) (c : Dev nD) (r : ℕ) (p s : Fin 2) : sProp 𝕄 := iprop(Q δ c (r + 1) p s ∗ Q δ c (r + 2) p s ∗ Q δ c (r + 3) p s)

/-- Before hop `r + 1`; -/
def Pre (δ : Dir) (c : Dev nD) (r : ℕ) (p s : Fin 2) : sProp 𝕄 :=
  iprop(Ps δ c r p s ∗ Qs δ c r p s ∗ CrdR δ c r p s ∗ Fut δ c (r + 1) p s ∗ Own δ c r p s ∗ Rdr δ c r p s)
/-- its piece has arrived; -/
def Rcv (δ : Dir) (c : Dev nD) (r : ℕ) (p s : Fin 2) : sProp 𝕄 :=
  iprop(Ps δ c (r + 1) p s ∗ Qs δ c r p s ∗ Fut δ c (r + 1) p s ∗ Own δ c r p s ∗ Rdr δ c r p s
    ∗ Pc δ c (sl (r + 1)) p s fullShare (Vx X (org δ c (r + 1)) p s))
/-- it has been passed on, half of it lent to the copy; -/
def Mid (δ : Dir) (c : Dev nD) (r : ℕ) (p s : Fin 2) : sProp 𝕄 :=
  iprop(Ps δ c (r + 1) p s ∗ Qs δ c r p s ∗ Fut δ c (r + 2) p s ∗ CrdS δ c (r + 1) p s ∗ CrdR δ c (r + 1) p s ∗ Rdr δ c (r + 1) p s)
def Half (δ : Dir) (c : Dev nD) (r : ℕ) (p s : Fin 2) : sProp 𝕄 := Pc δ c (sl (r + 1)) p s fullShare.left (Vx X (org δ c (r + 1)) p s)
/-- with the slot of the arrival before. -/
def Old (δ : Dir) (c : Dev nD) (r : ℕ) (p s : Fin 2) : sProp 𝕄 := iprop(Own δ c r p s ∗ Rdr δ c r p s)

/-- The first hop's states. -/
def Ini (δ : Dir) (c : Dev nD) (p s : Fin 2) : sProp 𝕄 :=
  iprop(Ps δ c 0 p s ∗ Q δ c 0 p s ∗ Q δ c 2 p s ∗ Q δ c 3 p s ∗ Fut δ c 0 p s ∗ Xp c p s (qx δ) (Vx X c p s))
def Mid0 (δ : Dir) (c : Dev nD) (p s : Fin 2) : sProp 𝕄 :=
  iprop(Ps δ c 0 p s ∗ Q δ c 0 p s ∗ Q δ c 2 p s ∗ Q δ c 3 p s ∗ Fut δ c 1 p s ∗ CrdS δ c 0 p s ∗ CrdR δ c 0 p s ∗ Rdr δ c 0 p s)

/-- What is left at the end: the semaphores at zero and the slots. -/
def Fin1 (δ : Dir) (c : Dev nD) (p s : Fin 2) : sProp 𝕄 :=
  iprop((semVal (rvC δ c 0 p s) 0 ∗ semVal (rvC δ c 1 p s) 0 ∗ semVal (rvC δ c 2 p s) 0)
    ∗ (semVal (sdC δ c 0 p s) 0 ∗ semVal (sdC δ c 1 p s) 0 ∗ semVal (sdC δ c 2 p s) 0)
    ∗ slotP δ c 0 p s ∗ slotP δ c 1 p s ∗ slotP δ c 2 p s)

/-! ## Pieces of the states -/

theorem fut_tok (δ : Dir) (c : Dev nD) (i : ℕ) (p s : Fin 2) (hi : i < 8) (hd : dom δ i p) :
    Fut δ c i p s ⊢ (iprop((SendTok δ c i p s ∗ Cap δ c i p s ∗ CrdR δ c i p s ∗ Rdr δ c i p s) ∗ Fut δ c (i + 1) p s) : sProp 𝕄) := by
  unfold Fut
  rw [bigSep_Ico_succ_bot hi]
  exact BIClass.sep_mono (Entails.of_eq (if_pos hd)) Entails.rfl

theorem Pc_split (δ : Dir) (c : Dev nD) (k : Fin 3) (p s : Fin 2) (V : S64x4096.Idx → Elt F .f32) :
    Pc δ c k p s fullShare V ⊢ (iprop(Pc δ c k p s fullShare.left V ∗ Pc δ c k p s fullShare.right V) : sProp 𝕄) := by
  iintro H
  ihave H := (Pc_out δ c k p s fullShare V) $$ H
  icases H with ⟨%f, %hf, H⟩
  ihave H := (pointsTo_share (ℓ := (bufM δ).view.loc (c : Thread nD τ)) (I := (pieceM δ k p s).view.set) (f := f) (PosShare.mem_left_op_right fullShare)).1 $$ H
  icases H with ⟨H1, H2⟩
  isplitl [H1]
  · iapply (Pc_in δ c k p s _ V f hf) $$ H1
  · iapply (Pc_in δ c k p s _ V f hf) $$ H2

theorem Pc_slot (δ : Dir) (c : Dev nD) (k : Fin 3) (p s : Fin 2) (V : S64x4096.Idx → Elt F .f32) :
    Pc δ c k p s fullShare V ⊢ (slotP δ c k p s : sProp 𝕄) := by
  iintro H
  ihave H := (Pc_out δ c k p s fullShare V) $$ H
  icases H with ⟨%f, %hf, H⟩
  unfold slotP Release.slot
  iexists f
  iexact H

/-- What a view reads determines its elements. -/
theorem read_inj {cs : CoreSpace} {s : Shape} {e : EltTy} (v : View sig .tc cs s e) {f g : v.ty.Contents (Elt F)} (h : v.read (Elt F) f = v.read (Elt F) g) :
    ∀ i ∈ v.set, f i = g i := fun i hi => by
  obtain ⟨j, -, rfl⟩ := Finset.mem_map.mp hi
  have := congrFun h j
  rw [View.read_apply, View.read_apply] at this
  exact (cast_inj _).mp this

/-- The two halves of a piece are the slot again. -/
theorem Pc_join (δ : Dir) (c : Dev nD) (k : Fin 3) (p s : Fin 2) (V : S64x4096.Idx → Elt F .f32) :
    iprop(Pc δ c k p s fullShare.left V ∗ Pc δ c k p s fullShare.right V) ⊢ (slotP δ c k p s : sProp 𝕄) := by
  iintro ⟨H1, H2⟩
  ihave H1 := (Pc_out δ c k p s fullShare.left V) $$ H1
  icases H1 with ⟨%f, %hf, H1⟩
  ihave H2 := (Pc_out δ c k p s fullShare.right V) $$ H2
  icases H2 with ⟨%g, %hg, H2⟩
  have hfg : ∀ i ∈ (pieceM δ k p s).view.set, g i = f i := read_inj _ (hg.trans hf.symm)
  ihave H2 := (Entails.of_eq (pointsTo_congr (ℓ := (bufM δ).view.loc (c : Thread nD τ)) hfg)) $$ H2
  unfold slotP Release.slot
  iexists f
  iapply (pointsTo_share (ℓ := (bufM δ).view.loc (c : Thread nD τ)) (PosShare.mem_left_op_right fullShare)).2
  isplitl [H1] <;> iassumption

/-! ## The steps -/

theorem wp_recv1 (δ : Dir) (c : Dev nD) (r : ℕ) (p s : Fin 2) (hr : r < 7) (l : List Ent) (hl : lb (2 * r + 2) l) (Φ : PUnit → sProp 𝕄) :
    iprop(Ctx X ∗ Pre δ c r p s ∗ OW c l)
      ⊢ iprop((Rcv X δ c r p s ∗ OW c l -∗ Φ ⟨⟩) -∗ WP c (waitRecv δ (sl (r + 1)) p s) Φ) := by
  unfold Pre Rcv Ps
  iintro ⟨#HC, ⟨⟨P0, P1, P2⟩, HQ, Hcr, Hf, Ho, Hr⟩, HO⟩ Hk
  iapply (wp_waitRecv X δ c r p s (by omega) (.inl hr) l hl Φ) $$ [P0 Hcr HO]
  · isplitr; · iexact HC
    isplitl [P0]; · iexact P0
    isplitl [Hcr] <;> iassumption
  iintro ⟨P3, Hp, HO⟩
  iapply Hk
  isplitr [HO]
  · isplitl [P1 P2 P3]
    · isplitl [P1]; · iexact P1
      isplitl [P2] <;> iassumption
    isplitl [HQ]; · iexact HQ
    isplitl [Hf]; · iexact Hf
    isplitl [Ho]; · iexact Ho
    isplitl [Hr] <;> iassumption
  iexact HO

theorem wp_send1 (δ : Dir) (c dst : Dev nD) (hdst : dst = nbr δ c) (r : ℕ) (p s : Fin 2) (hr : r < 7) (hd : dom δ (r + 1) p) (l : List Ent) (Φ : PUnit → sProp 𝕄) :
    iprop(Ctx X ∗ Heard δ c (r + 1) ∗ Rcv X δ c r p s ∗ OW c (sendEnt δ (r + 1) p s :: l))
      ⊢ iprop(((Mid δ c r p s ∗ Old δ c r p s ∗ Half X δ c r p s) ∗ OW c l -∗ Φ ⟨⟩) -∗ WP c (sendN dst δ (sl (r + 1)) (sl (r + 2)) p s) Φ) := by
  unfold Rcv Mid Old Half Qs
  iintro ⟨#HC, #Hh, ⟨HP, ⟨Q1, Q2, Q3⟩, Hf, Ho, Hr, Hp⟩, HO⟩ Hk
  ihave Hf := (fut_tok δ c (r + 1) p s (by omega) hd) $$ Hf
  icases Hf with ⟨⟨Ht, Hc, Hcr, Hrd⟩, Hf⟩
  ihave Hp := (Pc_split δ c _ p s _) $$ Hp
  icases Hp with ⟨Hpl, Hpr⟩
  iapply fupd_wp
  imod (ready X δ c (r + 1) p s hd) $$ [Hc] with Hrdy
  · isplitr; · iexact HC
    isplitr; · iexact Hh
    iexact Hc
  imodintro
  iapply (wp_sendN X δ c dst hdst (r + 1) p s (by omega) (by omega) hd l Φ) $$ [Q1 Ht Hrdy Hpr HO]
  · isplitr; · iexact HC
    isplitl [Q1]; · iexact Q1
    isplitl [Ht]; · iexact Ht
    isplitl [Hrdy]; · iexact Hrdy
    isplitl [Hpr] <;> iassumption
  iintro ⟨Q1, Hcs, HO⟩
  iapply Hk
  isplitr [HO]
  · isplitr [Ho Hr Hpl]
    · isplitl [HP]; · iexact HP
      isplitl [Q1 Q2 Q3]
      · isplitl [Q1]; · iexact Q1
        isplitl [Q2] <;> iassumption
      isplitl [Hf]; · iexact Hf
      isplitl [Hcs]; · iexact Hcs
      isplitl [Hcr] <;> iassumption
    isplitl [Ho Hr]
    · isplitl [Ho] <;> iassumption
    iexact Hpl
  iexact HO

theorem wp_drain1 (δ : Dir) (c : Dev nD) (r : ℕ) (k' : Fin 3) (p s : Fin 2) (hd : dom δ (r + 1) p) (l : List Ent) (hl : lb 0 l) (Φ : PUnit → sProp 𝕄) :
    iprop(Ctx X ∗ (Mid δ c r p s ∗ Half X δ c r p s) ∗ OW c l)
      ⊢ iprop((Pre δ c (r + 1) p s ∗ OW c l -∗ Φ ⟨⟩) -∗ WP c (waitSendN δ (sl (r + 1)) k' p s) Φ) := by
  unfold Pre Mid Half Qs
  have hown : (Own δ c (r + 1) p s : sProp 𝕄) = slotP δ c (sl (r + 1)) p s := if_neg (by omega)
  rw [hown]
  iintro ⟨#HC, ⟨⟨HP, ⟨Q1, Q2, Q3⟩, Hf, Hcs, Hcr, Hr⟩, Hpl⟩, HO⟩ Hk
  iapply (wp_waitSendN X δ c (r + 1) k' p s (by omega) hd l hl Φ) $$ [Q1 Hcs HO]
  · isplitr; · iexact HC
    isplitl [Q1]; · iexact Q1
    isplitl [Hcs] <;> iassumption
  iintro ⟨Q4, Hpr, HO⟩
  ihave Hs := (Pc_join δ c (sl (r + 1)) p s _) $$ [Hpl Hpr]
  · isplitl [Hpl] <;> iassumption
  iapply Hk
  isplitr [HO]
  · isplitl [HP]; · iexact HP
    isplitl [Q2 Q3 Q4]
    · isplitl [Q2]; · iexact Q2
      isplitl [Q3] <;> iassumption
    isplitl [Hcr]; · iexact Hcr
    isplitl [Hf]; · iexact Hf
    isplitl [Hs] <;> iassumption
  iexact HO

theorem wp_send01 (δ : Dir) (c dst : Dev nD) (hdst : dst = nbr δ c) (p s : Fin 2) (l : List Ent) (Φ : PUnit → sProp 𝕄) :
    iprop(Ctx X ∗ Ini X δ c p s ∗ OW c (sendEnt δ 0 p s :: l))
      ⊢ iprop((Mid0 δ c p s ∗ OW c l -∗ Φ ⟨⟩) -∗ WP c (send0 xM dst δ p s) Φ) := by
  unfold Ini Mid0
  have h0 : Heard δ c 0 = (iprop(emp) : sProp 𝕄) := if_pos (by omega)
  iintro ⟨#HC, ⟨HP, Q0, Q2, Q3, Hf, Hx⟩, HO⟩ Hk
  ihave Hf := (fut_tok δ c 0 p s (by omega) (.inl (by omega))) $$ Hf
  icases Hf with ⟨⟨Ht, Hc, Hcr, Hrd⟩, Hf⟩
  iapply fupd_wp
  imod (ready X δ c 0 p s (.inl (by omega))) $$ [Hc] with Hrdy
  · rw [h0]
    isplitr; · iexact HC
    isplitr; · iempintro
    iexact Hc
  imodintro
  iapply (wp_send0 X δ c dst hdst p s l Φ) $$ [Q0 Ht Hrdy Hx HO]
  · isplitr; · iexact HC
    isplitl [Q0]; · iexact Q0
    isplitl [Ht]; · iexact Ht
    isplitl [Hrdy]; · iexact Hrdy
    isplitl [Hx] <;> iassumption
  iintro ⟨Q0, Hcs, HO⟩
  iapply Hk
  isplitr [HO]
  · isplitl [HP]; · iexact HP
    isplitl [Q0]; · iexact Q0
    isplitl [Q2]; · iexact Q2
    isplitl [Q3]; · iexact Q3
    isplitl [Hf]; · iexact Hf
    isplitl [Hcs]; · iexact Hcs
    isplitl [Hcr] <;> iassumption
  iexact HO

theorem wp_drain01 (δ : Dir) (c : Dev nD) (p s : Fin 2) (l : List Ent) (hl : lb 0 l) (Φ : PUnit → sProp 𝕄) :
    iprop(Ctx X ∗ Mid0 δ c p s ∗ OW c l)
      ⊢ iprop(((Pre δ c 0 p s ∗ Xp c p s (qx δ) (Vx X c p s)) ∗ OW c l -∗ Φ ⟨⟩) -∗ WP c (waitSend0 xM δ p s) Φ) := by
  unfold Mid0 Pre Qs
  have hown : (Own δ c 0 p s : sProp 𝕄) = iprop(emp) := if_pos rfl
  rw [hown]
  iintro ⟨#HC, ⟨HP, Q0, Q2, Q3, Hf, Hcs, Hcr, Hr⟩, HO⟩ Hk
  iapply (wp_waitSend0 X δ c p s l hl Φ) $$ [Q0 Hcs HO]
  · isplitr; · iexact HC
    isplitl [Q0]; · iexact Q0
    isplitl [Hcs] <;> iassumption
  iintro ⟨Q1, Hx, HO⟩
  iapply Hk
  isplitr [HO]
  · isplitr [Hx]
    · isplitl [HP]; · iexact HP
      isplitl [Q1 Q2 Q3]
      · isplitl [Q1]; · iexact Q1
        isplitl [Q2] <;> iassumption
      isplitl [Hcr]; · iexact Hcr
      isplitl [Hf]; · iexact Hf
      isplitr; · iempintro
      iexact Hr
    iexact Hx
  iexact HO

/-! ## What the credits say -/

/-- The reader is at the rounds of the next arrivals. -/
theorem Ps_relA (δ : Dir) (c : Dev nD) (r : ℕ) (p s : Fin 2) : Ps δ c r p s ⊢ (iprop(RelA δ c r p s ∗ Ps δ c r p s) : sProp 𝕄) := by
  unfold Ps P RelA
  iintro ⟨P0, ⟨H1, #H2⟩, P2⟩
  isplitr; · iexact H2
  isplitl [P0]; · iexact P0
  isplitl [H1]
  · isplitl [H1]; · iexact H1
    iexact H2
  iexact P2

/-- The slot of the arrival before is given up, or kept for good. -/
theorem old_relB (δ : Dir) (c : Dev nD) (r : ℕ) (p s : Fin 2) (hr : r < 6) :
    iprop(Ctx X ∗ Old δ c r p s) ⊢ (|={Set.univ}=> iprop(RelB δ c (r + 1) p s ∗ Kp δ c (r + 1) p s) : sProp 𝕄) := by
  unfold Old Own Rdr RelB Kp
  by_cases h0 : r = 0
  · subst h0
    rw [if_neg (show ¬(2 ≤ 0 + 1 ∧ dom δ (0 + 1 + 1) p) from fun h => absurd h.1 (by omega)), if_neg (show ¬(0 + 1 = 6 ∧ p ≠ pk δ) from fun h => absurd h.1 (by omega))]
    iintro -; imodintro
    isplitr <;> iempintro
  rw [if_neg h0]
  by_cases hd : dom δ (r + 2) p
  · rw [if_pos ⟨by omega, hd⟩, if_neg (show ¬(r + 1 = 6 ∧ p ≠ pk δ) from fun h' => hd.elim (fun h => absurd h (by omega)) fun h => h'.2 h.2)]
    iintro ⟨#HC, Hs, Hr⟩
    imod (release X δ c r (by omega) p s) $$ [Hs Hr] with H
    · isplitr; · iexact HC
      isplitl [Hs] <;> iassumption
    imodintro
    isplitl [H]; · iexact H
    iempintro
  · have h5 : r = 5 := by by_contra h; exact hd (.inl (by omega))
    subst h5
    rw [if_neg (fun h => hd h.2), if_pos ⟨rfl, fun h => hd (.inr ⟨rfl, h⟩)⟩, show sl 5 = 2 from rfl]
    iintro ⟨-, Hs, -⟩
    imodintro
    isplitr; · iempintro
    iexact Hs

/-! ## The end of a piece -/

theorem three_rv (δ : Dir) (c : Dev nD) (r : ℕ) (p s : Fin 2) (hr : sl (r + 1) = 0 ∨ sl (r + 1) = 2) (hd : 8 ≤ r ∨ (r = 7 ∧ p ≠ pk δ)) :
    iprop(Ctx X ∗ Ps δ c r p s) ⊢ (|={Set.univ}=> iprop(semVal (rvC δ c 0 p s) 0 ∗ semVal (rvC δ c 1 p s) 0 ∗ semVal (rvC δ c 2 p s) 0) : sProp 𝕄) := by
  unfold Ps
  have h1 := close_rv X δ c (r + 1) p s (.inl (by omega))
  have h2 := close_rv X δ c (r + 2) p s (.inl (by omega))
  have h0 := close_rv X δ c r p s hd
  have e1 : (sl (r + 1)).val = (r + 1) % 3 := rfl
  rcases hr with e | e <;> rw [e] at h0 e1
  · rw [show sl (r + 1 + 1) = 1 from Fin.ext (by show (r + 2) % 3 = 1; have : 0 = (r + 1) % 3 := e1; omega)] at h1
    rw [show sl (r + 2 + 1) = 2 from Fin.ext (by show (r + 3) % 3 = 2; have : 0 = (r + 1) % 3 := e1; omega)] at h2
    iintro ⟨#HC, P0, P1, P2⟩
    imod h0 $$ [P0] with A
    · isplitr <;> iassumption
    imod h1 $$ [P1] with B
    · isplitr <;> iassumption
    imod h2 $$ [P2] with C
    · isplitr <;> iassumption
    imodintro
    isplitl [A]; · iexact A
    isplitl [B] <;> iassumption
  · rw [show sl (r + 1 + 1) = 0 from Fin.ext (by show (r + 2) % 3 = 0; have : 2 = (r + 1) % 3 := e1; omega)] at h1
    rw [show sl (r + 2 + 1) = 1 from Fin.ext (by show (r + 3) % 3 = 1; have : 2 = (r + 1) % 3 := e1; omega)] at h2
    iintro ⟨#HC, P0, P1, P2⟩
    imod h0 $$ [P0] with A
    · isplitr <;> iassumption
    imod h1 $$ [P1] with B
    · isplitr <;> iassumption
    imod h2 $$ [P2] with C
    · isplitr <;> iassumption
    imodintro
    isplitl [B]; · iexact B
    isplitl [C] <;> iassumption

theorem three_sd (δ : Dir) (c : Dev nD) (r : ℕ) (p s : Fin 2) (hr : r = 6 ∨ r = 7) (hd : 8 ≤ r + 1 ∨ (r + 1 = 7 ∧ p ≠ pk δ)) :
    iprop(Ctx X ∗ Qs δ c r p s) ⊢ (|={Set.univ}=> iprop(semVal (sdC δ c 0 p s) 0 ∗ semVal (sdC δ c 1 p s) 0 ∗ semVal (sdC δ c 2 p s) 0) : sProp 𝕄) := by
  unfold Qs
  have h1 := close_sd X δ c (r + 2) p s (.inl (by omega))
  have h2 := close_sd X δ c (r + 3) p s (.inl (by omega))
  have h0 := close_sd X δ c (r + 1) p s hd
  rcases hr with e | e <;> subst e
  · rw [show sS (6 + 1) = 1 from rfl] at h0
    rw [show sS (6 + 2) = 2 from rfl] at h1
    rw [show sS (6 + 3) = 0 from rfl] at h2
    iintro ⟨#HC, P0, P1, P2⟩
    imod h0 $$ [P0] with A
    · isplitr <;> iassumption
    imod h1 $$ [P1] with B
    · isplitr <;> iassumption
    imod h2 $$ [P2] with C
    · isplitr <;> iassumption
    imodintro
    isplitl [C]; · iexact C
    isplitl [A] <;> iassumption
  · rw [show sS (7 + 1) = 2 from rfl] at h0
    rw [show sS (7 + 2) = 0 from rfl] at h1
    rw [show sS (7 + 3) = 1 from rfl] at h2
    iintro ⟨#HC, P0, P1, P2⟩
    imod h0 $$ [P0] with A
    · isplitr <;> iassumption
    imod h1 $$ [P1] with B
    · isplitr <;> iassumption
    imod h2 $$ [P2] with C
    · isplitr <;> iassumption
    imodintro
    isplitl [B]; · iexact B
    isplitl [C] <;> iassumption

/-- A piece that hop 7 does not move. -/
theorem end_kept (δ : Dir) (c : Dev nD) (p s : Fin 2) (hp : p ≠ pk δ) :
    iprop(Ctx X ∗ Rcv X δ c 6 p s ∗ Kp δ c 6 p s) ⊢ (|={Set.univ}=> Fin1 δ c p s : sProp 𝕄) := by
  unfold Rcv Kp Own Fin1
  rw [if_pos (show 6 = 6 ∧ p ≠ pk δ from ⟨rfl, hp⟩), if_neg (show ¬(6 = 0) by omega), show sl 6 = 0 from rfl, show sl (6 + 1) = 1 from rfl]
  iintro ⟨#HC, ⟨HP, HQ, -, Ho, -, Hp⟩, Hk⟩
  imod (three_rv X δ c (6 + 1) p s (.inr rfl) (.inr ⟨rfl, hp⟩)) $$ [HP] with A
  · isplitr <;> iassumption
  imod (three_sd X δ c 6 p s (.inl rfl) (.inr ⟨rfl, hp⟩)) $$ [HQ] with B
  · isplitr <;> iassumption
  imodintro
  isplitl [A]; · iexact A
  isplitl [B]; · iexact B
  isplitl [Ho]; · iexact Ho
  isplitl [Hp]
  · iapply (Pc_slot δ c 1 p s _) $$ Hp
  iexact Hk

/-- The last arrival of a piece that hop 7 moves: it has been waited for. -/
def Lst (δ : Dir) (c : Dev nD) (p s : Fin 2) : sProp 𝕄 := iprop(Ps δ c 8 p s ∗ Qs δ c 7 p s ∗ Own δ c 7 p s)
def LstV (δ : Dir) (c : Dev nD) (p s : Fin 2) : sProp 𝕄 := Pc δ c 2 p s fullShare (Vx X (org δ c 8) p s)

theorem wp_last1 (δ : Dir) (c : Dev nD) (s : Fin 2) (Φ : PUnit → sProp 𝕄) :
    iprop(Ctx X ∗ Pre δ c 7 (pk δ) s ∗ OW c [])
      ⊢ iprop((Lst δ c (pk δ) s ∗ LstV X δ c (pk δ) s ∗ OW c [] -∗ Φ ⟨⟩) -∗ WP c (waitRecv δ 2 (pk δ) s) Φ) := by
  unfold Pre Lst LstV Ps
  iintro ⟨#HC, ⟨⟨P0, P1, P2⟩, HQ, Hcr, -, Ho, -⟩, HO⟩ Hk
  iapply (wp_waitRecv X δ c 7 (pk δ) s (by omega) (.inr ⟨rfl, rfl⟩) [] (lb_nil _) Φ) $$ [P0 Hcr HO]
  · isplitr; · iexact HC
    isplitl [P0]; · iexact P0
    isplitl [Hcr] <;> iassumption
  iintro ⟨P3, Hp, HO⟩
  iapply Hk
  isplitl [P1 P2 P3 HQ Ho]
  · isplitl [P1 P2 P3]
    · isplitl [P1]; · iexact P1
      isplitl [P2] <;> iassumption
    isplitl [HQ] <;> iassumption
  isplitl [Hp]; · iexact Hp
  iexact HO

/-- A piece that hop 7 moves. -/
theorem end_moved (δ : Dir) (c : Dev nD) (s : Fin 2) :
    iprop(Ctx X ∗ Lst δ c (pk δ) s ∗ LstV X δ c (pk δ) s ∗ Own δ c 6 (pk δ) s) ⊢ (|={Set.univ}=> Fin1 δ c (pk δ) s : sProp 𝕄) := by
  unfold Lst LstV Own Fin1
  rw [if_neg (by omega), if_neg (by omega), show sl 6 = 0 from rfl, show sl 7 = 1 from rfl]
  iintro ⟨#HC, ⟨HP, HQ, H7⟩, Hp, H6⟩
  imod (three_rv X δ c 8 (pk δ) s (.inl rfl) (.inl (by omega))) $$ [HP] with A
  · isplitr <;> iassumption
  imod (three_sd X δ c 7 (pk δ) s (.inr rfl) (.inl (by omega))) $$ [HQ] with B
  · isplitr <;> iassumption
  imodintro
  isplitl [A]; · iexact A
  isplitl [B]; · iexact B
  isplitl [H6]; · iexact H6
  isplitl [H7]; · iexact H7
  iapply (Pc_slot δ c 2 (pk δ) s _) $$ Hp

end Cert.RingProof

end
-- ==== Proof.Hop.lean ====
/- The hops, one after the other, and the whole body. -/
module

public import proofs.«01_k».proof.Proof.Piece

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ

variable (X : Dev nD → S256x4096.Idx → Elt F .f32) (Wv : Dev nD → S4096x128.Idx → Elt F .f32)

/-! ## Four pieces and eight -/

/-- One part, both directions, in the order of the program. -/
def Two (f : Dir → Fin 2 → sProp 𝕄) : sProp 𝕄 := iprop(f .r 0 ∗ f .l 0 ∗ f .r 1 ∗ f .l 1)
/-- Both parts. -/
def A8 (f : Dir → Fin 2 → Fin 2 → sProp 𝕄) : sProp 𝕄 := iprop(Two (fun δ s => f δ 0 s) ∗ Two (fun δ s => f δ 1 s))

theorem A8_dirs (f : Dir → Fin 2 → Fin 2 → sProp 𝕄) : A8 f ⊢ iprop(A4 (f .r) ∗ A4 (f .l)) := by
  unfold A8 Two A4
  iintro ⟨⟨r00, l00, r01, l01⟩, r10, l10, r11, l11⟩
  isplitl [r00 r01 r10 r11]
  · isplitl [r00]; · iexact r00
    isplitl [r01]; · iexact r01
    isplitl [r10] <;> iassumption
  · isplitl [l00]; · iexact l00
    isplitl [l01]; · iexact l01
    isplitl [l10] <;> iassumption
theorem dirs_A8 (f : Dir → Fin 2 → Fin 2 → sProp 𝕄) : iprop(A4 (f .r) ∗ A4 (f .l)) ⊢ A8 f := by
  unfold A8 Two A4
  iintro ⟨⟨r00, r01, r10, r11⟩, l00, l01, l10, l11⟩
  isplitl [r00 l00 r01 l01]
  · isplitl [r00]; · iexact r00
    isplitl [l00]; · iexact l00
    isplitl [r01] <;> iassumption
  · isplitl [r10]; · iexact r10
    isplitl [l10]; · iexact l10
    isplitl [r11] <;> iassumption

theorem A8_parts (f : Dir → Fin 2 → Fin 2 → sProp 𝕄) : A8 f ⊢ iprop(Two (fun δ s => f δ 0 s) ∗ Two (fun δ s => f δ 1 s)) := Entails.rfl

theorem A4_mono {f g : Fin 2 → Fin 2 → sProp 𝕄} (h : ∀ p s, f p s ⊢ g p s) : A4 f ⊢ A4 g := by
  unfold A4
  exact BIClass.sep_mono (h 0 0) (BIClass.sep_mono (h 0 1) (BIClass.sep_mono (h 1 0) (h 1 1)))
theorem A4_sep (f g : Fin 2 → Fin 2 → sProp 𝕄) : A4 (fun p s => iprop(f p s ∗ g p s)) ⊢ iprop(A4 f ∗ A4 g) := by
  unfold A4
  iintro ⟨⟨a, a'⟩, ⟨b, b'⟩, ⟨c, c'⟩, d, d'⟩
  isplitl [a b c d]
  · isplitl [a]; · iexact a
    isplitl [b]; · iexact b
    isplitl [c] <;> iassumption
  · isplitl [a']; · iexact a'
    isplitl [b']; · iexact b'
    isplitl [c'] <;> iassumption
theorem A4_zip (f g : Fin 2 → Fin 2 → sProp 𝕄) : iprop(A4 f ∗ A4 g) ⊢ A4 (fun p s => iprop(f p s ∗ g p s)) := by
  unfold A4
  iintro ⟨⟨a, b, c, d⟩, a', b', c', d'⟩
  isplitl [a a']; · isplitl [a] <;> iassumption
  isplitl [b b']; · isplitl [b] <;> iassumption
  isplitl [c c']; · isplitl [c] <;> iassumption
  isplitl [d] <;> iassumption
/-- An update of each of four pieces. -/
theorem A4_upd {K : sProp 𝕄} [BI.Persistent K] {f g : Fin 2 → Fin 2 → sProp 𝕄} (h : ∀ p s, iprop(K ∗ f p s) ⊢ |={Set.univ}=> g p s) :
    iprop(K ∗ A4 f) ⊢ |={Set.univ}=> A4 g := by
  unfold A4
  iintro ⟨#HK, a, b, c, d⟩
  imod (h 0 0) $$ [a] with a
  · isplitr <;> iassumption
  imod (h 0 1) $$ [b] with b
  · isplitr <;> iassumption
  imod (h 1 0) $$ [c] with c
  · isplitr <;> iassumption
  imod (h 1 1) $$ [d] with d
  · isplitr <;> iassumption
  imodintro
  isplitl [a]; · iexact a
  isplitl [b]; · iexact b
  isplitl [c] <;> iassumption

/-! ## The products of a hop -/

/-- The blocks that part `p` of hop `h` adds to the output. -/
def addB (c : Dev nD) (h : ℕ) (p : Fin 2) (D : List Blk) : List Blk :=
  (org .l c h, p, 0) :: (org .l c h, p, 1) :: (org .r c h, p, 0) :: (org .r c h, p, 1) :: D

theorem org_ne : ∀ (δ : Dir) (c : Dev nD) (r : Fin 7), org δ c (r.val + 1) ≠ org .r c 8 := by decide +kernel
theorem own_ne : ∀ c : Dev nD, c ≠ org .r c 8 := by decide +kernel

theorem wp_gemm1 (δ : Dir) (c : Dev nD) (r : Fin 7) (p : Fin 2) (q : PosShare TreeShare) (D : List Blk) (Φ : PUnit → sProp 𝕄) :
    iprop((Pc δ c (sl (r.val + 1)) p 0 q (Vx X (org δ c (r.val + 1)) p 0) ∗ Pc δ c (sl (r.val + 1)) p 1 q (Vx X (org δ c (r.val + 1)) p 1))
        ∗ WSt Wv c ∗ OutSt X Wv c D)
      ⊢ iprop(((Pc δ c (sl (r.val + 1)) p 0 q (Vx X (org δ c (r.val + 1)) p 0) ∗ Pc δ c (sl (r.val + 1)) p 1 q (Vx X (org δ c (r.val + 1)) p 1))
          ∗ WSt Wv c ∗ OutSt X Wv c ((org δ c (r.val + 1), p, 0) :: (org δ c (r.val + 1), p, 1) :: D) -∗ Φ ⟨⟩)
        -∗ WP c (gemmB wM oM (offB c δ r p) (offB_inb c δ r p) δ (sl (r.val + 1)) p) Φ) := by
  iintro ⟨⟨H0, H1⟩, Hw, Ho⟩ Hk
  iapply (wp_gemmB X Wv δ (sl (r.val + 1)) c (org δ c (r.val + 1)) p q (org_ne δ c r) _ (offB_inb c δ r p) (offB_eq δ c r p) D Φ) $$ [H0 H1 Hw Ho]
  · isplitl [H0]; · iexact H0
    isplitl [H1]; · iexact H1
    isplitl [Hw] <;> iassumption
  iintro ⟨H0, H1, Hw, Ho⟩
  iapply Hk
  isplitl [H0 H1]; · isplitl [H0] <;> iassumption
  isplitl [Hw] <;> iassumption

theorem wp_gemmH (δ : Dir) (c : Dev nD) (r : Fin 7) (p : Fin 2) (D : List Blk) (Φ : PUnit → sProp 𝕄) :
    iprop((Half X δ c r.val p 0 ∗ Half X δ c r.val p 1) ∗ WSt Wv c ∗ OutSt X Wv c D)
      ⊢ iprop(((Half X δ c r.val p 0 ∗ Half X δ c r.val p 1) ∗ WSt Wv c ∗ OutSt X Wv c ((org δ c (r.val + 1), p, 0) :: (org δ c (r.val + 1), p, 1) :: D) -∗ Φ ⟨⟩)
        -∗ WP c (gemmB wM oM (offB c δ r p) (offB_inb c δ r p) δ (sl (r.val + 1)) p) Φ) := by
  unfold Half
  exact wp_gemm1 X Wv δ c r p fullShare.left D Φ

theorem wp_gemmF (δ : Dir) (c : Dev nD) (r : Fin 7) (p : Fin 2) (D : List Blk) (Φ : PUnit → sProp 𝕄) :
    iprop((Rcv X δ c r.val p 0 ∗ Rcv X δ c r.val p 1) ∗ WSt Wv c ∗ OutSt X Wv c D)
      ⊢ iprop(((Rcv X δ c r.val p 0 ∗ Rcv X δ c r.val p 1) ∗ WSt Wv c ∗ OutSt X Wv c ((org δ c (r.val + 1), p, 0) :: (org δ c (r.val + 1), p, 1) :: D) -∗ Φ ⟨⟩)
        -∗ WP c (gemmB wM oM (offB c δ r p) (offB_inb c δ r p) δ (sl (r.val + 1)) p) Φ) := by
  unfold Rcv
  iintro ⟨⟨⟨A0, B0, C0, D0, E0, H0⟩, A1, B1, C1, D1, E1, H1⟩, Hw, Ho⟩ Hk
  iapply (wp_gemm1 X Wv δ c r p fullShare D Φ) $$ [H0 H1 Hw Ho]
  · isplitl [H0 H1]; · isplitl [H0] <;> iassumption
    isplitl [Hw] <;> iassumption
  iintro ⟨⟨H0, H1⟩, Hw, Ho⟩
  iapply Hk
  isplitr [Hw Ho]
  · isplitl [A0 B0 C0 D0 E0 H0]
    · isplitl [A0]; · iexact A0
      isplitl [B0]; · iexact B0
      isplitl [C0]; · iexact C0
      isplitl [D0]; · iexact D0
      isplitl [E0] <;> iassumption
    · isplitl [A1]; · iexact A1
      isplitl [B1]; · iexact B1
      isplitl [C1]; · iexact C1
      isplitl [D1]; · iexact D1
      isplitl [E1] <;> iassumption
  isplitl [Hw] <;> iassumption

/-! ## The credits and the drains -/

/-- The rights to the credits of hops `n` and later. -/
def CT (δ : Dir) (c : Dev nD) (n : ℕ) : sProp 𝕄 := bigSep (Finset.Ico n 7) (fun h => dutyTok ER (crC δ (prv δ c)) 0 h)

theorem wp_credits (c : Dev nD) (h : Fin 7) (l : List Ent) (Φ : PUnit → sProp 𝕄) :
    iprop(Ctx X ∗ (CT .r c h.val ∗ CT .l c h.val) ∗ (RelU .r c (h.val + 1) ∗ RelU .l c (h.val + 1)) ∗ OW c (credEnt .r h.val :: credEnt .l h.val :: l))
      ⊢ iprop(((CT .r c (h.val + 1) ∗ CT .l c (h.val + 1)) ∗ OW c l -∗ Φ ⟨⟩) -∗ WP c (credits (T c) h.val) Φ) := by
  unfold CT credits
  rw [bigSep_Ico_succ_bot h.isLt, bigSep_Ico_succ_bot h.isLt]
  simp only [wp_bind]
  iintro ⟨#HC, ⟨⟨Tr, Cr⟩, Tl, Cl⟩, ⟨#Rr, #Rl⟩, HO⟩ Hk
  iapply (wp_creditSig X .r c _ (T_credit c h).1 h.val h.isLt _ _) $$ [Tr HO]
  · isplitr; · iexact HC
    isplitl [Tr]; · iexact Tr
    isplitr; · iexact Rr
    iexact HO
  iintro HO
  iapply (wp_creditSig X .l c _ (T_credit c h).2 h.val h.isLt _ _) $$ [Tl HO]
  · isplitr; · iexact HC
    isplitl [Tl]; · iexact Tl
    isplitr; · iexact Rl
    iexact HO
  iintro HO
  iapply Hk
  isplitl [Cr Cl]
  · isplitl [Cr] <;> iassumption
  iexact HO

theorem wp_drain (δ : Dir) (c : Dev nD) (r : Fin 7) (hr : r.val < 6) (l : List Ent) (hl : lb 0 l) (Φ : PUnit → sProp 𝕄) :
    iprop(Ctx X ∗ A4 (fun p s => iprop(Mid δ c r.val p s ∗ Half X δ c r.val p s)) ∗ OW c l)
      ⊢ iprop((A4 (Pre δ c (r.val + 1)) ∗ OW c l -∗ Φ ⟨⟩) -∗ WP c (drain r δ) Φ) := by
  have hd : ∀ p, dom δ (r.val + 1) p := fun p => .inl (by omega)
  unfold A4 drain
  simp only [wp_bind]
  iintro ⟨#HC, ⟨a, b, d, e⟩, HO⟩ Hk
  iapply (wp_drain1 X δ c r.val _ 0 0 (hd 0) l hl _) $$ [a HO]
  · isplitr; · iexact HC
    isplitl [a] <;> iassumption
  iintro ⟨a, HO⟩
  iapply (wp_drain1 X δ c r.val _ 0 1 (hd 0) l hl _) $$ [b HO]
  · isplitr; · iexact HC
    isplitl [b] <;> iassumption
  iintro ⟨b, HO⟩
  iapply (wp_drain1 X δ c r.val _ 1 0 (hd 1) l hl _) $$ [d HO]
  · isplitr; · iexact HC
    isplitl [d] <;> iassumption
  iintro ⟨d, HO⟩
  iapply (wp_drain1 X δ c r.val _ 1 1 (hd 1) l hl _) $$ [e HO]
  · isplitr; · iexact HC
    isplitl [e] <;> iassumption
  iintro ⟨e, HO⟩
  iapply Hk
  isplitr [HO]
  · isplitl [a]; · iexact a
    isplitl [b]; · iexact b
    isplitl [d] <;> iassumption
  iexact HO

theorem wp_drain0 (δ : Dir) (c : Dev nD) (l : List Ent) (hl : lb 0 l) (Φ : PUnit → sProp 𝕄) :
    iprop(Ctx X ∗ A4 (Mid0 δ c) ∗ OW c l)
      ⊢ iprop((A4 (fun p s => iprop(Pre δ c 0 p s ∗ Xp c p s (qx δ) (Vx X c p s))) ∗ OW c l -∗ Φ ⟨⟩) -∗ WP c (drain0 xM δ) Φ) := by
  unfold A4 drain0
  simp only [wp_bind]
  iintro ⟨#HC, ⟨a, b, d, e⟩, HO⟩ Hk
  iapply (wp_drain01 X δ c 0 0 l hl _) $$ [a HO]
  · isplitr; · iexact HC
    isplitl [a] <;> iassumption
  iintro ⟨a, HO⟩
  iapply (wp_drain01 X δ c 0 1 l hl _) $$ [b HO]
  · isplitr; · iexact HC
    isplitl [b] <;> iassumption
  iintro ⟨b, HO⟩
  iapply (wp_drain01 X δ c 1 0 l hl _) $$ [d HO]
  · isplitr; · iexact HC
    isplitl [d] <;> iassumption
  iintro ⟨d, HO⟩
  iapply (wp_drain01 X δ c 1 1 l hl _) $$ [e HO]
  · isplitr; · iexact HC
    isplitl [e] <;> iassumption
  iintro ⟨e, HO⟩
  iapply Hk
  isplitr [HO]
  · isplitl [a]; · iexact a
    isplitl [b]; · iexact b
    isplitl [d] <;> iassumption
  iexact HO

/-! ## A hop in the middle -/

/-- A piece passed on, with its kept half and the slot before. -/
def Sent (δ : Dir) (c : Dev nD) (r : ℕ) (p s : Fin 2) : sProp 𝕄 := iprop(Mid δ c r p s ∗ Old δ c r p s ∗ Half X δ c r p s)

theorem lb_tail {n : ℕ} {e : Ent} {l : List Ent} (h : lb n (e :: l)) : lb n l := ((lb_cons _ _ _).mp h).2

theorem wp_hopPart (c : Dev nD) (r : Fin 7) (hr : r.val < 6) (p : Fin 2) (D : List Blk) (l : List Ent) (hl : lb (2 * r.val + 2) (partEnts (r.val + 1) p l))
    (Φ : PUnit → sProp 𝕄) :
    iprop(Ctx X ∗ (Heard .r c (r.val + 1) ∗ Heard .l c (r.val + 1)) ∗ Two (fun δ s => Pre δ c r.val p s) ∗ WSt Wv c ∗ OutSt X Wv c D
        ∗ OW c (partEnts (r.val + 1) p l))
      ⊢ iprop((Two (fun δ s => Sent X δ c r.val p s) ∗ WSt Wv c ∗ OutSt X Wv c (addB c (r.val + 1) p D) ∗ OW c l -∗ Φ ⟨⟩)
        -∗ WP c (hopPart wM oM (T c) c r p) Φ) := by
  have hd : ∀ δ, dom δ (r.val + 1) p := fun δ => .inl (by omega)
  unfold partEnts at hl ⊢
  unfold Two Sent addB hopPart recvBoth sendBoth gemmBoth
  simp only [wp_bind]
  iintro ⟨#HC, ⟨#Hr, #Hl⟩, ⟨r0, l0, r1, l1⟩, Hw, Ho, HO⟩ Hk
  iapply (wp_recv1 X .r c r.val p 0 (by omega) _ hl _) $$ [r0 HO]
  · isplitr; · iexact HC
    isplitl [r0] <;> iassumption
  iintro ⟨r0, HO⟩
  iapply (wp_recv1 X .l c r.val p 0 (by omega) _ hl _) $$ [l0 HO]
  · isplitr; · iexact HC
    isplitl [l0] <;> iassumption
  iintro ⟨l0, HO⟩
  iapply (wp_send1 X .r c _ (T_send c ⟨r.val, hr⟩ p 0).1 r.val p 0 (by omega) (hd .r) _ _) $$ [r0 HO]
  · isplitr; · iexact HC
    isplitr; · iexact Hr
    isplitl [r0] <;> iassumption
  iintro ⟨r0, HO⟩
  iapply (wp_send1 X .l c _ (T_send c ⟨r.val, hr⟩ p 0).2 r.val p 0 (by omega) (hd .l) _ _) $$ [l0 HO]
  · isplitr; · iexact HC
    isplitr; · iexact Hl
    isplitl [l0] <;> iassumption
  iintro ⟨l0, HO⟩
  iapply (wp_recv1 X .r c r.val p 1 (by omega) _ (lb_tail (lb_tail hl)) _) $$ [r1 HO]
  · isplitr; · iexact HC
    isplitl [r1] <;> iassumption
  iintro ⟨r1, HO⟩
  iapply (wp_recv1 X .l c r.val p 1 (by omega) _ (lb_tail (lb_tail hl)) _) $$ [l1 HO]
  · isplitr; · iexact HC
    isplitl [l1] <;> iassumption
  iintro ⟨l1, HO⟩
  iapply (wp_send1 X .r c _ (T_send c ⟨r.val, hr⟩ p 1).1 r.val p 1 (by omega) (hd .r) _ _) $$ [r1 HO]
  · isplitr; · iexact HC
    isplitr; · iexact Hr
    isplitl [r1] <;> iassumption
  iintro ⟨r1, HO⟩
  iapply (wp_send1 X .l c _ (T_send c ⟨r.val, hr⟩ p 1).2 r.val p 1 (by omega) (hd .l) _ _) $$ [l1 HO]
  · isplitr; · iexact HC
    isplitr; · iexact Hl
    isplitl [l1] <;> iassumption
  iintro ⟨l1, HO⟩
  icases r0 with ⟨r0, r0', r0h⟩
  icases r1 with ⟨r1, r1', r1h⟩
  icases l0 with ⟨l0, l0', l0h⟩
  icases l1 with ⟨l1, l1', l1h⟩
  iapply (wp_gemmH X Wv .r c r p D _) $$ [r0h r1h Hw Ho]
  · isplitl [r0h r1h]; · isplitl [r0h] <;> iassumption
    isplitl [Hw] <;> iassumption
  iintro ⟨⟨r0h, r1h⟩, Hw, Ho⟩
  iapply (wp_gemmH X Wv .l c r p _ _) $$ [l0h l1h Hw Ho]
  · isplitl [l0h l1h]; · isplitl [l0h] <;> iassumption
    isplitl [Hw] <;> iassumption
  iintro ⟨⟨l0h, l1h⟩, Hw, Ho⟩
  iapply Hk
  isplitr [Hw Ho HO]
  · isplitl [r0 r0' r0h]
    · isplitl [r0]; · iexact r0
      isplitl [r0'] <;> iassumption
    isplitl [l0 l0' l0h]
    · isplitl [l0]; · iexact l0
      isplitl [l0'] <;> iassumption
    isplitl [r1 r1' r1h]
    · isplitl [r1]; · iexact r1
      isplitl [r1'] <;> iassumption
    isplitl [l1]; · iexact l1
    isplitl [l1'] <;> iassumption
  isplitl [Hw]; · iexact Hw
  isplitl [Ho] <;> iassumption

/-- What hop `r + 1`'s credit says, from the four pieces passed on. -/
theorem credit_says (δ : Dir) (c : Dev nD) (r : ℕ) (hr : r < 6) :
    iprop(Ctx X ∗ A4 (Sent X δ c r)) ⊢ (|={Set.univ}=> iprop(Rel δ c (r + 1) ∗ A4 (fun p s => iprop(Mid δ c r p s ∗ Half X δ c r p s)) ∗ A4 (Kp δ c (r + 1))) : sProp 𝕄) := by
  have h1 : ∀ p s, iprop(Ctx X ∗ Sent X δ c r p s)
      ⊢ (|={Set.univ}=> iprop((RelA δ c (r + 1) p s ∗ RelB δ c (r + 1) p s) ∗ (Mid δ c r p s ∗ Half X δ c r p s) ∗ Kp δ c (r + 1) p s) : sProp 𝕄) := fun p s => by
    unfold Sent Mid
    iintro ⟨#HC, ⟨HP, HM⟩, Ho, Hh⟩
    ihave HP := (Ps_relA δ c (r + 1) p s) $$ HP
    icases HP with ⟨HA, HP⟩
    imod (old_relB X δ c r p s hr) $$ [Ho] with Ho
    · isplitr <;> iassumption
    icases Ho with ⟨HB, HK⟩
    imodintro
    isplitl [HA HB]; · isplitl [HA] <;> iassumption
    isplitr [HK]
    · isplitr [Hh]
      · isplitl [HP] <;> iassumption
      iexact Hh
    iexact HK
  iintro H
  imod (A4_upd h1) $$ H with H
  imodintro
  ihave H := (A4_sep _ _) $$ H
  icases H with ⟨HR, H⟩
  ihave HR := (A4_sep _ _) $$ HR
  ihave H := (A4_sep _ _) $$ H
  unfold Rel
  isplitl [HR] <;> iassumption

/-- Between two hops. -/
def HopSt (c : Dev nD) (r : ℕ) (D : List Blk) : sProp 𝕄 :=
  iprop(A8 (fun δ p s => iprop(Pre δ c r p s ∗ Kp δ c r p s)) ∗ (RelU .r c (r + 1) ∗ RelU .l c (r + 1)) ∗ (CT .r c (r + 1) ∗ CT .l c (r + 1))
    ∗ WSt Wv c ∗ OutSt X Wv c D ∗ OW c (rest (r + 1)))

theorem lb_part {n h : ℕ} {p : Fin 2} {l : List Ent} (hl : lb n (partEnts h p l)) : lb n l := lb_tail (lb_tail (lb_tail (lb_tail hl)))

theorem wp_hop (c : Dev nD) (r : Fin 7) (hr : r.val < 6) (D : List Blk) (Φ : PUnit → sProp 𝕄) :
    iprop(Ctx X ∗ (Heard .r c (r.val + 1) ∗ Heard .l c (r.val + 1)) ∗ HopSt X Wv c r.val D)
      ⊢ iprop((HopSt X Wv c (r.val + 1) (addB c (r.val + 1) 1 (addB c (r.val + 1) 0 D)) -∗ Φ ⟨⟩) -∗ WP c (hop wM oM (T c) c r) Φ) := by
  have hl : lb (2 * r.val + 2) (rest (r.val + 1)) := lb_mono (by show _ ≤ 2 * (r.val + 1) + 1; omega) (lb_rest ⟨r.val + 1, by omega⟩)
  unfold HopSt
  rw [rest_succ (r.val + 1) (by omega)] at hl ⊢
  unfold hopEnts at hl ⊢
  unfold hop
  simp only [wp_bind]
  iintro ⟨#HC, #HH, HA, ⟨#Ur, #Ul⟩, HT, Hw, Ho, HO⟩ Hk
  ihave HA := (A8_dirs _) $$ HA
  icases HA with ⟨HAr, HAl⟩
  ihave HAr := (A4_sep _ _) $$ HAr
  icases HAr with ⟨HAr, -⟩
  ihave HAl := (A4_sep _ _) $$ HAl
  icases HAl with ⟨HAl, -⟩
  ihave HA := (dirs_A8 (fun δ p s => Pre δ c r.val p s)) $$ [HAr HAl]
  · isplitl [HAr] <;> iassumption
  ihave HA := (A8_parts _) $$ HA
  icases HA with ⟨HA0, HA1⟩
  iapply (wp_hopPart X Wv c r hr 0 D _ hl _) $$ [HA0 Hw Ho HO]
  · isplitr; · iexact HC
    isplitr; · iexact HH
    isplitl [HA0]; · iexact HA0
    isplitl [Hw]; · iexact Hw
    isplitl [Ho] <;> iassumption
  iintro ⟨HA0, Hw, Ho, HO⟩
  iapply (wp_hopPart X Wv c r hr 1 _ _ (lb_part hl) _) $$ [HA1 Hw Ho HO]
  · isplitr; · iexact HC
    isplitr; · iexact HH
    isplitl [HA1]; · iexact HA1
    isplitl [Hw]; · iexact Hw
    isplitl [Ho] <;> iassumption
  iintro ⟨HA1, Hw, Ho, HO⟩
  ihave HA := (A8_dirs (fun δ p s => Sent X δ c r.val p s)) $$ [HA0 HA1]
  · unfold A8; isplitl [HA0] <;> iassumption
  icases HA with ⟨HAr, HAl⟩
  iapply fupd_wp
  imod (credit_says X .r c r.val hr) $$ [HAr] with HAr
  · isplitr <;> iassumption
  icases HAr with ⟨#Rr, HAr, HKr⟩
  imod (credit_says X .l c r.val hr) $$ [HAl] with HAl
  · isplitr <;> iassumption
  icases HAl with ⟨#Rl, HAl, HKl⟩
  imodintro
  ihave #Vr := (RelU_succ .r c (r.val + 1)) $$ []
  · isplitr <;> iassumption
  ihave #Vl := (RelU_succ .l c (r.val + 1)) $$ []
  · isplitr <;> iassumption
  iapply (wp_credits X c ⟨r.val + 1, by omega⟩ _ _) $$ [HT HO]
  · isplitr; · iexact HC
    isplitl [HT]; · iexact HT
    isplitr
    · isplitr <;> iassumption
    iexact HO
  iintro ⟨HT, HO⟩
  have hl0 : lb 0 (rest (r.val + 1 + 1)) := lb_mono (Nat.zero_le _) (lb_tail (lb_tail (lb_part (lb_part hl))))
  iapply (wp_drain X .r c r hr _ hl0 _) $$ [HAr HO]
  · isplitr; · iexact HC
    isplitl [HAr] <;> iassumption
  iintro ⟨HAr, HO⟩
  iapply (wp_drain X .l c r hr _ hl0 _) $$ [HAl HO]
  · isplitr; · iexact HC
    isplitl [HAl] <;> iassumption
  iintro ⟨HAl, HO⟩
  iapply Hk
  isplitr [HT Hw Ho HO]
  · iapply (dirs_A8 (fun δ p s => iprop(Pre δ c (r.val + 1) p s ∗ Kp δ c (r.val + 1) p s)))
    isplitl [HAr HKr]
    · iapply (A4_zip _ _); isplitl [HAr] <;> iassumption
    · iapply (A4_zip _ _); isplitl [HAl] <;> iassumption
  isplitr
  · isplitr <;> iassumption
  isplitl [HT]; · iexact HT
  isplitl [Hw]; · iexact Hw
  isplitl [Ho] <;> iassumption

end Cert.RingProof

end
-- ==== Proof.Ends.lean ====
/- The first hop, the last one, the tail, and the whole body. -/
module

public import proofs.«01_k».proof.Proof.Hop

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ

variable (X : Dev nD → S256x4096.Idx → Elt F .f32) (Wv : Dev nD → S4096x128.Idx → Elt F .f32)

/-! ## Hop 0 -/

/-- The blocks that hop 0 adds. -/
def addX (c : Dev nD) (p : Fin 2) (D : List Blk) : List Blk := (c, p, 0) :: (c, p, 1) :: D

theorem wp_hop0Part (c : Dev nD) (p : Fin 2) (D : List Blk) (l : List Ent) (Φ : PUnit → sProp 𝕄) :
    iprop(Ctx X ∗ Two (fun δ s => Ini X δ c p s) ∗ (XK X c ∗ WSt Wv c ∗ OutSt X Wv c D) ∗ OW c (partEnts 0 p l))
      ⊢ iprop((Two (fun δ s => Mid0 δ c p s) ∗ (XK X c ∗ WSt Wv c ∗ OutSt X Wv c (addX c p D)) ∗ OW c l -∗ Φ ⟨⟩)
        -∗ WP c (hop0Part xM wM oM (T c) c p) Φ) := by
  obtain ⟨t1, t2, t3, t4⟩ := T_send0 c p
  unfold partEnts Two addX hop0Part
  simp only [wp_bind]
  iintro ⟨#HC, ⟨r0, l0, r1, l1⟩, HX, HO⟩ Hk
  iapply (wp_send01 X .r c _ t1 p 0 _ _) $$ [r0 HO]
  · isplitr; · iexact HC
    isplitl [r0] <;> iassumption
  iintro ⟨r0, HO⟩
  iapply (wp_send01 X .l c _ t2 p 0 _ _) $$ [l0 HO]
  · isplitr; · iexact HC
    isplitl [l0] <;> iassumption
  iintro ⟨l0, HO⟩
  iapply (wp_send01 X .r c _ t3 p 1 _ _) $$ [r1 HO]
  · isplitr; · iexact HC
    isplitl [r1] <;> iassumption
  iintro ⟨r1, HO⟩
  iapply (wp_send01 X .l c _ t4 p 1 _ _) $$ [l1 HO]
  · isplitr; · iexact HC
    isplitl [l1] <;> iassumption
  iintro ⟨l1, HO⟩
  iapply (wp_gemmX X Wv c p (own_ne c) _ (k0_off1_inb c p) (off1_eq c p) D _) $$ HX
  iintro HX
  iapply Hk
  isplitr [HX HO]
  · isplitl [r0]; · iexact r0
    isplitl [l0]; · iexact l0
    isplitl [r1] <;> iassumption
  isplitl [HX] <;> iassumption

/-- What hop 0's credit says. -/
theorem credit0_says (δ : Dir) (c : Dev nD) : A4 (Mid0 δ c) ⊢ (iprop(RelU δ c (0 + 1) ∗ A4 (Mid0 δ c)) : sProp 𝕄) := by
  have h1 : ∀ p s, Mid0 δ c p s ⊢ (iprop((RelA δ c 0 p s ∗ RelB δ c 0 p s) ∗ Mid0 δ c p s) : sProp 𝕄) := fun p s => by
    unfold Mid0
    have hB : (RelB δ c 0 p s : sProp 𝕄) = iprop(emp) := if_neg fun h => absurd h.1 (by omega)
    rw [hB]
    iintro ⟨HP, HM⟩
    ihave HP := (Ps_relA δ c 0 p s) $$ HP
    icases HP with ⟨HA, HP⟩
    isplitl [HA]
    · isplitl [HA]; · iexact HA
      iempintro
    isplitl [HP] <;> iassumption
  iintro H
  ihave H := (A4_mono h1) $$ H
  ihave H := (A4_sep _ _) $$ H
  icases H with ⟨HR, H⟩
  ihave HR := (A4_sep _ _) $$ HR
  isplitl [HR]
  · unfold RelU
    rw [bigSep_range_succ]
    unfold Rel
    isplitl [HR]; · iexact HR
    rw [Finset.range_zero, bigSep_empty]
    iempintro
  iexact H

theorem wp_hop0 (c : Dev nD) (Φ : PUnit → sProp 𝕄) :
    iprop(Ctx X ∗ A8 (fun δ p s => Ini X δ c p s) ∗ (CT .r c 0 ∗ CT .l c 0) ∗ (XK X c ∗ WSt Wv c ∗ OutSt X Wv c []) ∗ OW c (rest 0))
      ⊢ iprop((HopSt X Wv c 0 (addX c 1 (addX c 0 [])) ∗ XK X c ∗ A8 (fun δ p s => Xp c p s (qx δ) (Vx X c p s)) -∗ Φ ⟨⟩)
        -∗ WP c (hop0 xM wM oM (T c) c) Φ) := by
  have hl0 : lb 0 (rest 1) := lb_mono (Nat.zero_le _) (lb_rest 1)
  rw [rest_succ 0 (by omega)]
  unfold hopEnts HopSt hop0
  simp only [wp_bind]
  iintro ⟨#HC, HA, HT, HX, HO⟩ Hk
  ihave HA := (A8_parts _) $$ HA
  icases HA with ⟨HA0, HA1⟩
  iapply (wp_hop0Part X Wv c 0 [] _ _) $$ [HA0 HX HO]
  · isplitr; · iexact HC
    isplitl [HA0]; · iexact HA0
    isplitl [HX] <;> iassumption
  iintro ⟨HA0, HX, HO⟩
  iapply (wp_hop0Part X Wv c 1 _ _ _) $$ [HA1 HX HO]
  · isplitr; · iexact HC
    isplitl [HA1]; · iexact HA1
    isplitl [HX] <;> iassumption
  iintro ⟨HA1, HX, HO⟩
  ihave HA := (A8_dirs (fun δ p s => Mid0 δ c p s)) $$ [HA0 HA1]
  · unfold A8; isplitl [HA0] <;> iassumption
  icases HA with ⟨HAr, HAl⟩
  ihave HAr := (credit0_says .r c) $$ HAr
  icases HAr with ⟨#Vr, HAr⟩
  ihave HAl := (credit0_says .l c) $$ HAl
  icases HAl with ⟨#Vl, HAl⟩
  iapply (wp_credits X c 0 _ _) $$ [HT HO]
  · isplitr; · iexact HC
    isplitl [HT]; · iexact HT
    isplitr
    · isplitr; · iexact Vr
      iexact Vl
    iexact HO
  iintro ⟨HT, HO⟩
  iapply (wp_drain0 X .r c _ hl0 _) $$ [HAr HO]
  · isplitr; · iexact HC
    isplitl [HAr] <;> iassumption
  iintro ⟨HAr, HO⟩
  iapply (wp_drain0 X .l c _ hl0 _) $$ [HAl HO]
  · isplitr; · iexact HC
    isplitl [HAl] <;> iassumption
  iintro ⟨HAl, HO⟩
  ihave HAr := (A4_sep _ _) $$ HAr
  icases HAr with ⟨HAr, HXr⟩
  ihave HAl := (A4_sep _ _) $$ HAl
  icases HAl with ⟨HAl, HXl⟩
  icases HX with ⟨HX, Hw, Ho⟩
  have hK : ∀ δ p s, Pre δ c 0 p s ⊢ (iprop(Pre δ c 0 p s ∗ Kp δ c 0 p s) : sProp 𝕄) := fun δ p s => by
    unfold Kp
    rw [if_neg (show ¬(0 = 6 ∧ p ≠ pk δ) from fun h => absurd h.1 (by omega))]
    iintro H
    isplitl [H]; · iexact H
    iempintro
  iapply Hk
  isplitr [HX HXr HXl]
  · isplitl [HAr HAl]
    · iapply (dirs_A8 (fun δ p s => iprop(Pre δ c 0 p s ∗ Kp δ c 0 p s)))
      isplitl [HAr]
      · iapply (A4_mono (hK .r)) $$ HAr
      · iapply (A4_mono (hK .l)) $$ HAl
    isplitr
    · isplitr <;> iassumption
    isplitl [HT]; · iexact HT
    isplitl [Hw]; · iexact Hw
    isplitl [Ho] <;> iassumption
  isplitl [HX]; · iexact HX
  iapply (dirs_A8 (fun δ p s => Xp c p s (qx δ) (Vx X c p s)))
  isplitl [HXr] <;> iassumption

/-! ## Hop 7 and the tail -/

theorem wp_send7 (δ : Dir) (c dst : Dev nD) (hdst : dst = nbr δ c) (p s : Fin 2) (hp : p = pk δ) (l : List Ent) (Φ : PUnit → sProp 𝕄) :
    iprop(Ctx X ∗ Heard δ c 7 ∗ Rcv X δ c 6 p s ∗ OW c (sendEnt δ 7 p s :: l))
      ⊢ iprop(((Mid δ c 6 p s ∗ Old δ c 6 p s ∗ Half X δ c 6 p s) ∗ OW c l -∗ Φ ⟨⟩) -∗ WP c (sendN dst δ 1 2 p s) Φ) :=
  wp_send1 X δ c dst hdst 6 p s (by omega) (.inr ⟨rfl, hp⟩) l Φ
theorem wp_drain7 (δ : Dir) (c : Dev nD) (p s : Fin 2) (hp : p = pk δ) (l : List Ent) (hl : lb 0 l) (Φ : PUnit → sProp 𝕄) :
    iprop(Ctx X ∗ (Mid δ c 6 p s ∗ Half X δ c 6 p s) ∗ OW c l)
      ⊢ iprop((Pre δ c 7 p s ∗ OW c l -∗ Φ ⟨⟩) -∗ WP c (waitSendN δ 1 2 p s) Φ) :=
  wp_drain1 X δ c 6 2 p s (.inr ⟨rfl, hp⟩) l hl Φ
theorem wp_gemmH7 (δ : Dir) (c : Dev nD) (p : Fin 2) (D : List Blk) (Φ : PUnit → sProp 𝕄) :
    iprop((Half X δ c 6 p 0 ∗ Half X δ c 6 p 1) ∗ WSt Wv c ∗ OutSt X Wv c D)
      ⊢ iprop(((Half X δ c 6 p 0 ∗ Half X δ c 6 p 1) ∗ WSt Wv c ∗ OutSt X Wv c ((org δ c 7, p, 0) :: (org δ c 7, p, 1) :: D) -∗ Φ ⟨⟩)
        -∗ WP c (gemmB wM oM (offB c δ 6 p) (offB_inb c δ 6 p) δ (sl ((6 : Fin 7).val + 1)) p) Φ) := wp_gemmH X Wv δ c 6 p D Φ
theorem wp_gemmF7 (δ : Dir) (c : Dev nD) (p : Fin 2) (D : List Blk) (Φ : PUnit → sProp 𝕄) :
    iprop((Rcv X δ c 6 p 0 ∗ Rcv X δ c 6 p 1) ∗ WSt Wv c ∗ OutSt X Wv c D)
      ⊢ iprop(((Rcv X δ c 6 p 0 ∗ Rcv X δ c 6 p 1) ∗ WSt Wv c ∗ OutSt X Wv c ((org δ c 7, p, 0) :: (org δ c 7, p, 1) :: D) -∗ Φ ⟨⟩)
        -∗ WP c (gemmB wM oM (offB c δ 6 p) (offB_inb c δ 6 p) δ (sl ((6 : Fin 7).val + 1)) p) Φ) := wp_gemmF X Wv δ c 6 p D Φ

/-- After hop 7: the part that went on, -/
def Mvd (δ : Dir) (c : Dev nD) (p s : Fin 2) : sProp 𝕄 := iprop(Pre δ c 7 p s ∗ Old δ c 6 p s)
/-- and the part that stays. -/
def Kept (δ : Dir) (c : Dev nD) (p s : Fin 2) : sProp 𝕄 := iprop(Rcv X δ c 6 p s ∗ Kp δ c 6 p s)

theorem wp_hop7 (c : Dev nD) (D : List Blk) (Φ : PUnit → sProp 𝕄) :
    iprop(Ctx X ∗ (Heard .r c 7 ∗ Heard .l c 7) ∗ HopSt X Wv c 6 D)
      ⊢ iprop((((Mvd .r c 0 0 ∗ Mvd .r c 0 1) ∗ (Mvd .l c 1 0 ∗ Mvd .l c 1 1)) ∗ ((Kept X .r c 1 0 ∗ Kept X .r c 1 1) ∗ (Kept X .l c 0 0 ∗ Kept X .l c 0 1))
          ∗ WSt Wv c ∗ OutSt X Wv c (addB c 7 1 (addB c 7 0 D)) ∗ OW c [] -∗ Φ ⟨⟩)
        -∗ WP c (hop7 wM oM (T c) c) Φ) := by
  have hl : lb 14 lastEnts := lb_mono (by decide) (lb_rest 7)
  have hrest : rest (6 + 1) = lastEnts := rfl
  unfold HopSt
  rw [hrest]
  unfold lastEnts at hl ⊢
  unfold A8 Two Mvd Kept addB hop7 recvBoth gemmBoth
  simp only [wp_bind]
  iintro ⟨#HC, ⟨#Hr, #Hl⟩, ⟨⟨⟨r00, -⟩, ⟨l00, l00k⟩, ⟨r01, -⟩, ⟨l01, l01k⟩⟩, ⟨r10, r10k⟩, ⟨l10, -⟩, ⟨r11, r11k⟩, ⟨l11, -⟩⟩, -, -, Hw, Ho, HO⟩ Hk
  iapply (wp_recv1 X .r c 6 0 0 (by omega) _ (hl) _) $$ [r00 HO]
  · isplitr; · iexact HC
    isplitl [r00] <;> iassumption
  iintro ⟨r00, HO⟩
  iapply (wp_recv1 X .l c 6 0 0 (by omega) _ (hl) _) $$ [l00 HO]
  · isplitr; · iexact HC
    isplitl [l00] <;> iassumption
  iintro ⟨l00, HO⟩
  iapply (wp_send7 X .r c _ (T_last c).1 0 0 rfl _ _) $$ [r00 HO]
  · isplitr; · iexact HC
    isplitr; · iexact Hr
    isplitl [r00] <;> iassumption
  iintro ⟨⟨r00, r00o, r00h⟩, HO⟩
  iapply (wp_recv1 X .r c 6 0 1 (by omega) _ (lb_tail hl) _) $$ [r01 HO]
  · isplitr; · iexact HC
    isplitl [r01] <;> iassumption
  iintro ⟨r01, HO⟩
  iapply (wp_recv1 X .l c 6 0 1 (by omega) _ (lb_tail hl) _) $$ [l01 HO]
  · isplitr; · iexact HC
    isplitl [l01] <;> iassumption
  iintro ⟨l01, HO⟩
  iapply (wp_send7 X .r c _ (T_last c).2.1 0 1 rfl _ _) $$ [r01 HO]
  · isplitr; · iexact HC
    isplitr; · iexact Hr
    isplitl [r01] <;> iassumption
  iintro ⟨⟨r01, r01o, r01h⟩, HO⟩
  iapply (wp_gemmH7 X Wv .r c 0 _ _) $$ [r00h r01h Hw Ho]
  · isplitl [r00h r01h]; · isplitl [r00h] <;> iassumption
    isplitl [Hw] <;> iassumption
  iintro ⟨⟨r00h, r01h⟩, Hw, Ho⟩
  iapply (wp_gemmF7 X Wv .l c 0 _ _) $$ [l00 l01 Hw Ho]
  · isplitl [l00 l01]; · isplitl [l00] <;> iassumption
    isplitl [Hw] <;> iassumption
  iintro ⟨⟨l00, l01⟩, Hw, Ho⟩
  iapply (wp_recv1 X .r c 6 1 0 (by omega) _ (lb_tail (lb_tail hl)) _) $$ [r10 HO]
  · isplitr; · iexact HC
    isplitl [r10] <;> iassumption
  iintro ⟨r10, HO⟩
  iapply (wp_recv1 X .l c 6 1 0 (by omega) _ (lb_tail (lb_tail hl)) _) $$ [l10 HO]
  · isplitr; · iexact HC
    isplitl [l10] <;> iassumption
  iintro ⟨l10, HO⟩
  iapply (wp_send7 X .l c _ (T_last c).2.2.1 1 0 rfl _ _) $$ [l10 HO]
  · isplitr; · iexact HC
    isplitr; · iexact Hl
    isplitl [l10] <;> iassumption
  iintro ⟨⟨l10, l10o, l10h⟩, HO⟩
  iapply (wp_recv1 X .r c 6 1 1 (by omega) _ (lb_tail (lb_tail (lb_tail hl))) _) $$ [r11 HO]
  · isplitr; · iexact HC
    isplitl [r11] <;> iassumption
  iintro ⟨r11, HO⟩
  iapply (wp_recv1 X .l c 6 1 1 (by omega) _ (lb_tail (lb_tail (lb_tail hl))) _) $$ [l11 HO]
  · isplitr; · iexact HC
    isplitl [l11] <;> iassumption
  iintro ⟨l11, HO⟩
  iapply (wp_send7 X .l c _ (T_last c).2.2.2 1 1 rfl _ _) $$ [l11 HO]
  · isplitr; · iexact HC
    isplitr; · iexact Hl
    isplitl [l11] <;> iassumption
  iintro ⟨⟨l11, l11o, l11h⟩, HO⟩
  iapply (wp_gemmF7 X Wv .r c 1 _ _) $$ [r10 r11 Hw Ho]
  · isplitl [r10 r11]; · isplitl [r10] <;> iassumption
    isplitl [Hw] <;> iassumption
  iintro ⟨⟨r10, r11⟩, Hw, Ho⟩
  iapply (wp_gemmH7 X Wv .l c 1 _ _) $$ [l10h l11h Hw Ho]
  · isplitl [l10h l11h]; · isplitl [l10h] <;> iassumption
    isplitl [Hw] <;> iassumption
  iintro ⟨⟨l10h, l11h⟩, Hw, Ho⟩
  iapply (wp_drain7 X .r c 0 0 rfl _ (lb_nil _) _) $$ [r00 r00h HO]
  · isplitr; · iexact HC
    isplitr [HO]
    · isplitl [r00] <;> iassumption
    iexact HO
  iintro ⟨r00, HO⟩
  iapply (wp_drain7 X .r c 0 1 rfl _ (lb_nil _) _) $$ [r01 r01h HO]
  · isplitr; · iexact HC
    isplitr [HO]
    · isplitl [r01] <;> iassumption
    iexact HO
  iintro ⟨r01, HO⟩
  iapply (wp_drain7 X .l c 1 0 rfl _ (lb_nil _) _) $$ [l10 l10h HO]
  · isplitr; · iexact HC
    isplitr [HO]
    · isplitl [l10] <;> iassumption
    iexact HO
  iintro ⟨l10, HO⟩
  iapply (wp_drain7 X .l c 1 1 rfl _ (lb_nil _) _) $$ [l11 l11h HO]
  · isplitr; · iexact HC
    isplitr [HO]
    · isplitl [l11] <;> iassumption
    iexact HO
  iintro ⟨l11, HO⟩
  iapply Hk
  isplitl [r00 r00o r01 r01o l10 l10o l11 l11o]
  · isplitl [r00 r00o r01 r01o]
    · isplitl [r00 r00o]; · isplitl [r00] <;> iassumption
      isplitl [r01] <;> iassumption
    isplitl [l10 l10o]; · isplitl [l10] <;> iassumption
    isplitl [l11] <;> iassumption
  isplitr [Hw Ho HO]
  · isplitl [r10 r10k r11 r11k]
    · isplitl [r10 r10k]; · isplitl [r10] <;> iassumption
      isplitl [r11] <;> iassumption
    isplitl [l00 l00k]; · isplitl [l00] <;> iassumption
    isplitl [l01] <;> iassumption
  isplitl [Hw]; · iexact Hw
  isplitl [Ho] <;> iassumption

/-- The last arrival's product. -/
theorem wp_gemmL (δ : Dir) (c : Dev nD) (p s : Fin 2) (D : List Blk) (Φ : PUnit → sProp 𝕄) :
    iprop(LstV X δ c p s ∗ WSt Wv c ∗ OutSt X Wv c D)
      ⊢ iprop((LstV X δ c p s ∗ WSt Wv c ∗ OutSt X Wv c ((org .r c 8, p, s) :: D) -∗ Φ ⟨⟩)
        -∗ WP c (gemmP wM oM (k0_off4 c (BitVec.ofNat 32 (128 * p.val)) (BitVec.ofNat 32 (64 * s.val))) (k0_off4_inb c p s) δ 2 p s) Φ) := by
  unfold LstV
  have h : org δ c 8 = org .r c 8 := by cases δ; · rfl
                                        exact org_lr8 c
  rw [h]
  exact wp_gemmP X Wv δ 2 c p s fullShare _ _ (off4_eq c p s) D Φ

theorem wp_last (δ : Dir) (c : Dev nD) (p s : Fin 2) (hp : p = pk δ) (Φ : PUnit → sProp 𝕄) :
    iprop(Ctx X ∗ Pre δ c 7 p s ∗ OW c [])
      ⊢ iprop((Lst δ c p s ∗ LstV X δ c p s ∗ OW c [] -∗ Φ ⟨⟩) -∗ WP c (waitRecv δ 2 p s) Φ) := by
  subst hp; exact wp_last1 X δ c s Φ

/-- A piece at its end, before its semaphores are closed. -/
def Endp (δ : Dir) (c : Dev nD) (p s : Fin 2) : sProp 𝕄 := iprop(Lst δ c p s ∗ LstV X δ c p s ∗ Own δ c 6 p s)

theorem wp_tailPart (c : Dev nD) (s : Fin 2) (D : List Blk) (Φ : PUnit → sProp 𝕄) :
    iprop(Ctx X ∗ (Mvd .r c 0 s ∗ Mvd .l c 1 s) ∗ WSt Wv c ∗ OutSt X Wv c D ∗ OW c [])
      ⊢ iprop(((Endp X .r c 0 s ∗ Endp X .l c 1 s) ∗ WSt Wv c ∗ OutSt X Wv c ((org .r c 8, 1, s) :: (org .r c 8, 0, s) :: D) ∗ OW c [] -∗ Φ ⟨⟩)
        -∗ WP c (tailPart wM oM c s) Φ) := by
  unfold Mvd Old Endp tailPart
  simp only [wp_bind]
  iintro ⟨#HC, ⟨⟨r, ro, -⟩, ⟨l, lo, -⟩⟩, Hw, Ho, HO⟩ Hk
  iapply (wp_last X .r c 0 s rfl _) $$ [r HO]
  · isplitr; · iexact HC
    isplitl [r] <;> iassumption
  iintro ⟨r, rv, HO⟩
  iapply (wp_gemmL X Wv .r c 0 s D _) $$ [rv Hw Ho]
  · isplitl [rv]; · iexact rv
    isplitl [Hw] <;> iassumption
  iintro ⟨rv, Hw, Ho⟩
  iapply (wp_last X .l c 1 s rfl _) $$ [l HO]
  · isplitr; · iexact HC
    isplitl [l] <;> iassumption
  iintro ⟨l, lv, HO⟩
  iapply (wp_gemmL X Wv .l c 1 s _ _) $$ [lv Hw Ho]
  · isplitl [lv]; · iexact lv
    isplitl [Hw] <;> iassumption
  iintro ⟨lv, Hw, Ho⟩
  iapply Hk
  isplitr [Hw Ho HO]
  · isplitl [r rv ro]
    · isplitl [r]; · iexact r
      isplitl [rv] <;> iassumption
    isplitl [l]; · iexact l
    isplitl [lv] <;> iassumption
  isplitl [Hw]; · iexact Hw
  isplitl [Ho] <;> iassumption

/-! ## The waits for credits -/

theorem wp_creditWaits (c : Dev nD) (r : Fin 7) (D : List Blk) (m k : ℕ) (n : BitVec 32) (hn : n.toInt = (k : ℤ)) (hk : 1 ≤ k) (hm : m + k = r.val + 1) (Φ : PUnit → sProp 𝕄) :
    iprop(Ctx X ∗ (CP .r c m ∗ CP .l c m) ∗ (cred (tallyAt (crC .r c) (2 * r.val + 3) k) ∗ cred (tallyAt (crC .l c) (2 * r.val + 3) k)) ∗ HopSt X Wv c r.val D)
      ⊢ iprop(((CP .r c (r.val + 1) ∗ CP .l c (r.val + 1)) ∗ (Heard .r c (r.val + 1) ∗ Heard .l c (r.val + 1)) ∗ HopSt X Wv c r.val D -∗ Φ ⟨⟩)
        -∗ WP c (creditWait n) Φ) := by
  have hl : lb (2 * r.val + 3) (rest (r.val + 1)) := lb_rest ⟨r.val + 1, by omega⟩
  have hh : ∀ δ, RelU δ (nbr δ c) (r.val + 1) ⊢ (Heard δ c (r.val + 1) : sProp 𝕄) := fun δ => by
    unfold Heard
    split
    · iintro -; iempintro
    · exact Entails.rfl
  have hr := r.isLt
  unfold HopSt creditWait
  simp only [wp_bind]
  rw [← hm]
  rw [← hm] at hh
  have hl' : lb (2 * r.val + 3) (rest (m + k)) := by rw [hm]; exact hl
  iintro ⟨#HC, ⟨Pr, Pl⟩, ⟨Cr, Cl⟩, HA, HU, HT, Hw, Ho, HO⟩ Hk
  iapply (wp_creditWait X .r c m k (2 * r.val + 3) n hn hk (by omega) _ hl' _) $$ [Pr Cr HO]
  · isplitr; · iexact HC
    isplitl [Pr]; · iexact Pr
    isplitl [Cr] <;> iassumption
  iintro ⟨Pr, Ur, HO⟩
  iapply (wp_creditWait X .l c m k (2 * r.val + 3) n hn hk (by omega) _ hl' _) $$ [Pl Cl HO]
  · isplitr; · iexact HC
    isplitl [Pl]; · iexact Pl
    isplitl [Cl] <;> iassumption
  iintro ⟨Pl, Ul, HO⟩
  iapply Hk
  isplitl [Pr Pl]; · isplitl [Pr] <;> iassumption
  isplitl [Ur Ul]
  · isplitl [Ur]
    · iapply (hh .r) $$ Ur
    · iapply (hh .l) $$ Ul
  isplitl [HA]; · iexact HA
  isplitl [HU]; · iexact HU
  isplitl [HT]; · iexact HT
  isplitl [Hw]; · iexact Hw
  isplitl [Ho] <;> iassumption

end Cert.RingProof

end
-- ==== Proof.Body.lean ====
/- The whole body of the kernel on one device, from what the launch deals to what it takes back. -/
module

public import proofs.«01_k».proof.Proof.Ends

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ

variable (X : Dev nD → S256x4096.Idx → Elt F .f32) (Wv : Dev nD → S4096x128.Idx → Elt F .f32)

/-! ## Before the handshake -/

/-- The right to take the receiver's slot for hop `i`, once a reader has freed it. -/
def Wr (δ : Dir) (c : Dev nD) (i : ℕ) (p s : Fin 2) : sProp 𝕄 :=
  if i < 3 then iprop(emp) else Release.writeTok ES (key δ (nbr δ c) (i - 2) p s) 1
/-- What the launch deals for hop `i` of a piece. -/
def Tok' (δ : Dir) (c : Dev nD) (p s : Fin 2) (i : ℕ) : sProp 𝕄 :=
  if dom δ i p then iprop(SendTok δ c i p s ∗ Wr δ c i p s ∗ CrdR δ c i p s ∗ Rdr δ c i p s) else iprop(emp)
/-- What the launch deals for a piece. -/
def Deal (δ : Dir) (c : Dev nD) (p s : Fin 2) : sProp 𝕄 :=
  iprop(Ps δ c 0 p s ∗ Q δ c 0 p s ∗ Q δ c 2 p s ∗ Q δ c 3 p s ∗ bigSep (Finset.Ico 0 8) (Tok' δ c p s))

theorem tok_fill (δ : Dir) (c : Dev nD) (p s : Fin 2) (i : ℕ) (hi : i < 3) :
    iprop(Tok' δ c p s i ∗ slotP δ (nbr δ c) (sl (i + 1)) p s) ⊢ (Tok δ c p s i : sProp 𝕄) := by
  unfold Tok' Tok Wr Cap
  rw [if_pos (Or.inl (by omega)), if_pos (Or.inl (by omega)), if_pos hi, if_pos hi]
  iintro ⟨⟨A, -, B, C⟩, S⟩
  isplitl [A]; · iexact A
  isplitl [S]; · iexact S
  isplitl [B] <;> iassumption
theorem tok_same (δ : Dir) (c : Dev nD) (p s : Fin 2) (i : ℕ) (hi : 3 ≤ i) : (Tok' δ c p s i : sProp 𝕄) = Tok δ c p s i := by
  unfold Tok' Tok Wr Cap
  rw [if_neg (show ¬(i < 3) by omega), if_neg (show ¬(i < 3) by omega)]

/-- The slots that the neighbour hands over at the handshake complete the first hops. -/
theorem deal_ini (δ : Dir) (c : Dev nD) (p s : Fin 2) :
    iprop(Deal δ c p s ∗ Xp c p s (qx δ) (Vx X c p s) ∗ slotP δ (nbr δ c) 0 p s ∗ slotP δ (nbr δ c) 1 p s ∗ slotP δ (nbr δ c) 2 p s) ⊢ (Ini X δ c p s : sProp 𝕄) := by
  have hrest : bigSep (Finset.Ico 3 8) (Tok' δ c p s) = (bigSep (Finset.Ico 3 8) (Tok δ c p s) : sProp 𝕄) :=
    bigSep_congr fun i hi => tok_same δ c p s i (Finset.mem_Ico.mp hi).1
  unfold Deal Ini Fut
  rw [bigSep_Ico_succ_bot (show 0 < 8 by omega), bigSep_Ico_succ_bot (show 0 + 1 < 8 by omega), bigSep_Ico_succ_bot (show 0 + 1 + 1 < 8 by omega), hrest,
    bigSep_Ico_succ_bot (show 0 < 8 by omega), bigSep_Ico_succ_bot (show 0 + 1 < 8 by omega), bigSep_Ico_succ_bot (show 0 + 1 + 1 < 8 by omega)]
  iintro ⟨⟨HP, Q0, Q2, Q3, T0, T1, T2, TR⟩, HX, S0, S1, S2⟩
  isplitl [HP]; · iexact HP
  isplitl [Q0]; · iexact Q0
  isplitl [Q2]; · iexact Q2
  isplitl [Q3]; · iexact Q3
  isplitr [HX]
  · isplitl [T0 S1]
    · iapply (tok_fill δ c p s 0 (by omega)); isplitl [T0]; · iexact T0
      iexact S1
    isplitl [T1 S2]
    · iapply (tok_fill δ c p s (0 + 1) (by omega)); isplitl [T1]; · iexact T1
      iexact S2
    isplitl [T2 S0]
    · iapply (tok_fill δ c p s (0 + 1 + 1) (by omega)); isplitl [T2]; · iexact T2
      iexact S0
    iexact TR
  iexact HX

theorem deal_ini4 (δ : Dir) (c : Dev nD) :
    iprop(A4 (Deal δ c) ∗ A4 (fun p s => Xp c p s (qx δ) (Vx X c p s)) ∗ Bufs δ (nbr δ c)) ⊢ (A4 (Ini X δ c) : sProp 𝕄) := by
  unfold Bufs
  iintro ⟨HD, HX, H0, H1, H2⟩
  iapply (A4_mono (deal_ini X δ c))
  iapply (A4_zip _ _)
  isplitl [HD]; · iexact HD
  iapply (A4_zip _ _)
  isplitl [HX]; · iexact HX
  iapply (A4_zip _ _)
  isplitl [H0]; · iexact H0
  iapply (A4_zip _ _)
  isplitl [H1] <;> iassumption

theorem heard_early (c : Dev nD) (h : ℕ) (hh : h < 3) : Ctx X ⊢ (iprop(Heard .r c h ∗ Heard .l c h) : sProp 𝕄) := by
  unfold Heard
  rw [if_pos hh, if_pos hh]
  iintro -
  isplitr <;> iempintro

theorem CP_zero (δ : Dir) (c : Dev nD) : atPos ER (crC δ c) 0 ∅ 0 ⊢ (CP δ c 0 : sProp 𝕄) := by
  unfold CP
  iintro H
  iexists (∅ : Finset ℕ)
  isplitr; · ipureintro; exact ⟨Finset.empty_subset _, Nat.zero_le _⟩
  isplitl [H]; · iexact H
  rw [bigSep_empty]; iempintro

/-! ## The whole -/

/-- The credits that hop `r + 1` waits for, both directions. -/
def CrW (c : Dev nD) (r k : ℕ) : sProp 𝕄 := iprop(cred (tallyAt (crC .r c) (2 * r + 3) k) ∗ cred (tallyAt (crC .l c) (2 * r + 3) k))
def CrWs (c : Dev nD) : sProp 𝕄 := iprop(CrW c 2 3 ∗ CrW c 3 1 ∗ CrW c 4 1 ∗ CrW c 5 1 ∗ CrW c 6 1)
/-- The device's own block, its kept half and the pieces lent. -/
def XSt (c : Dev nD) : sProp 𝕄 := iprop(XK X c ∗ A8 (fun δ p s => Xp c p s (qx δ) (Vx X c p s)))
/-- What the launch deals a device for the protocol. -/
def Dealt (c : Dev nD) : sProp 𝕄 :=
  iprop(Hand c ∗ A8 (fun δ p s => Deal δ c p s) ∗ (CT .r c 0 ∗ CT .l c 0) ∗ (atPos ER (crC .r c) 0 ∅ 0 ∗ atPos ER (crC .l c) 0 ∅ 0) ∗ CrWs c)
/-- What the device gives back. -/
def Back (c : Dev nD) : sProp 𝕄 :=
  iprop(A8 (fun δ p s => Fin1 δ c p s) ∗ (semVal (crC .r c) 0 ∗ semVal (crC .l c) 0) ∗ semVal (barC c) 0)

/-- The blocks stored, in the order of the program. -/
def Dfin (c : Dev nD) : List Blk :=
  (org .r c 8, 1, 1) :: (org .r c 8, 0, 1) :: (org .r c 8, 1, 0) :: (org .r c 8, 0, 0) ::
    addB c 7 1 (addB c 7 0 (addB c 6 1 (addB c 6 0 (addB c 5 1 (addB c 5 0 (addB c 4 1 (addB c 4 0 (addB c 3 1 (addB c 3 0
      (addB c 2 1 (addB c 2 0 (addB c 1 1 (addB c 1 0 (addX c 1 (addX c 0 [])))))))))))))))
theorem Dfin_all : ∀ (c : Dev nD) (b : Blk), b ∈ Dfin c := by decide +kernel

/-- The ends of all pieces close. -/
theorem close_all (c : Dev nD) :
    iprop(Ctx X ∗ (Endp X .r c 0 0 ∗ Endp X .l c 1 0) ∗ (Endp X .r c 0 1 ∗ Endp X .l c 1 1) ∗ ((Kept X .r c 1 0 ∗ Kept X .r c 1 1) ∗ (Kept X .l c 0 0 ∗ Kept X .l c 0 1)))
      ⊢ (|={Set.univ}=> A8 (fun δ p s => Fin1 δ c p s) : sProp 𝕄) := by
  have hE : ∀ δ p s, p = pk δ → iprop(Ctx X ∗ Endp X δ c p s) ⊢ (|={Set.univ}=> Fin1 δ c p s : sProp 𝕄) := fun δ p s hp => by
    subst hp; unfold Endp; exact end_moved X δ c s
  have hK : ∀ δ p s, p ≠ pk δ → iprop(Ctx X ∗ Kept X δ c p s) ⊢ (|={Set.univ}=> Fin1 δ c p s : sProp 𝕄) := fun δ p s hp => by
    unfold Kept; exact end_kept X δ c p s hp
  unfold A8 Two
  iintro ⟨#HC, ⟨r00, l10⟩, ⟨r01, l11⟩, ⟨r10, r11⟩, l00, l01⟩
  imod (hE .r 0 0 rfl) $$ [r00] with r00
  · isplitr <;> iassumption
  imod (hE .l 1 0 rfl) $$ [l10] with l10
  · isplitr <;> iassumption
  imod (hE .r 0 1 rfl) $$ [r01] with r01
  · isplitr <;> iassumption
  imod (hE .l 1 1 rfl) $$ [l11] with l11
  · isplitr <;> iassumption
  imod (hK .r 1 0 (by decide)) $$ [r10] with r10
  · isplitr <;> iassumption
  imod (hK .r 1 1 (by decide)) $$ [r11] with r11
  · isplitr <;> iassumption
  imod (hK .l 0 0 (by decide)) $$ [l00] with l00
  · isplitr <;> iassumption
  imod (hK .l 0 1 (by decide)) $$ [l01] with l01
  · isplitr <;> iassumption
  imodintro
  isplitl [r00 l00 r01 l01]
  · isplitl [r00]; · iexact r00
    isplitl [l00]; · iexact l00
    isplitl [r01] <;> iassumption
  isplitl [r10]; · iexact r10
  isplitl [l10]; · iexact l10
  isplitl [r11] <;> iassumption

/-- The end of the body, its semaphores not yet closed. -/
def Open (c : Dev nD) : sProp 𝕄 :=
  iprop(((Endp X .r c 0 0 ∗ Endp X .l c 1 0) ∗ (Endp X .r c 0 1 ∗ Endp X .l c 1 1) ∗ ((Kept X .r c 1 0 ∗ Kept X .r c 1 1) ∗ (Kept X .l c 0 0 ∗ Kept X .l c 0 1)))
    ∗ (CP .r c 7 ∗ CP .l c 7) ∗ atPos ER (barC c) 1 ∅ 0)

theorem wp_body_open (c : Dev nD) (Φ : PUnit → sProp 𝕄) :
    iprop(Ctx X ∗ Dealt c ∗ Own2 c ∗ XSt X c ∗ WSt Wv c ∗ OutSt X Wv c [] ∗ OW c allEnts)
      ⊢ iprop((Open X c ∗ XSt X c ∗ WSt Wv c ∗ OutSt X Wv c (Dfin c) ∗ OW c [] -∗ Φ ⟨⟩) -∗ WP c (body xM wM oM (T c) c) Φ) := by
  have hl : lb 1 (rest 0) := lb_rest 0
  unfold Dealt XSt CrWs CrW allEnts Open body
  simp only [wp_bind]
  iintro ⟨#HC, ⟨Hh, HA, HT, ⟨Pr, Pl⟩, C2, C3, C4, C5, C6⟩, Hown, ⟨HX, HXp⟩, Hw, Ho, HO⟩ Hk
  iapply (wp_handshake X c _ hl _) $$ [Hh Hown HO]
  · isplitr; · iexact HC
    isplitl [Hh]; · iexact Hh
    isplitl [Hown] <;> iassumption
  unfold Nbr2
  iintro ⟨Hb, ⟨Nr, Nl⟩, HO⟩
  ihave HA := (A8_dirs _) $$ HA
  icases HA with ⟨HAr, HAl⟩
  ihave HXp := (A8_dirs _) $$ HXp
  icases HXp with ⟨HXr, HXl⟩
  ihave HA := (dirs_A8 (fun δ p s => Ini X δ c p s)) $$ [HAr HAl HXr HXl Nr Nl]
  · isplitl [HAr HXr Nr]
    · iapply (deal_ini4 X .r c); isplitl [HAr]; · iexact HAr
      isplitl [HXr] <;> iassumption
    · iapply (deal_ini4 X .l c); isplitl [HAl]; · iexact HAl
      isplitl [HXl] <;> iassumption
  ihave Pr := (CP_zero .r c) $$ Pr
  ihave Pl := (CP_zero .l c) $$ Pl
  ihave HP : iprop(CP .r c 0 ∗ CP .l c 0) $$ [Pr Pl]
  · isplitl [Pr] <;> iassumption
  iapply (wp_hop0 X Wv c _) $$ [HA HT HX Hw Ho HO]
  · isplitr; · iexact HC
    isplitl [HA]; · iexact HA
    isplitl [HT]; · iexact HT
    isplitr [HO]
    · isplitl [HX]; · iexact HX
      isplitl [Hw] <;> iassumption
    iexact HO
  iintro ⟨HS, HX⟩
  ihave #HH := (heard_early X c 1 (by decide)) $$ HC
  iapply (wp_hop X Wv c 0 (by decide) _ _) $$ [HS]
  · isplitr; · iexact HC
    isplitr; · iexact HH
    iexact HS
  iintro HS
  iclear HH
  ihave #HH := (heard_early X c 2 (by decide)) $$ HC
  iapply (wp_hop X Wv c 1 (by decide) _ _) $$ [HS]
  · isplitr; · iexact HC
    isplitr; · iexact HH
    iexact HS
  iintro HS
  iclear HH
  iapply (wp_creditWaits X Wv c 2 _ 0 3 3#32 (by decide) (by decide) (by decide) _) $$ [HP C2 HS]
  · isplitr; · iexact HC
    isplitl [HP]; · iexact HP
    isplitl [C2]; · iexact C2
    iexact HS
  iintro ⟨HP, #HH, HS⟩
  iapply (wp_hop X Wv c 2 (by decide) _ _) $$ [HS]
  · isplitr; · iexact HC
    isplitr; · iexact HH
    iexact HS
  iintro HS
  iclear HH
  iapply (wp_creditWaits X Wv c 3 _ 3 1 1#32 (by decide) (by decide) (by decide) _) $$ [HP C3 HS]
  · isplitr; · iexact HC
    isplitl [HP]; · iexact HP
    isplitl [C3]; · iexact C3
    iexact HS
  iintro ⟨HP, #HH, HS⟩
  iapply (wp_hop X Wv c 3 (by decide) _ _) $$ [HS]
  · isplitr; · iexact HC
    isplitr; · iexact HH
    iexact HS
  iintro HS
  iclear HH
  iapply (wp_creditWaits X Wv c 4 _ 4 1 1#32 (by decide) (by decide) (by decide) _) $$ [HP C4 HS]
  · isplitr; · iexact HC
    isplitl [HP]; · iexact HP
    isplitl [C4]; · iexact C4
    iexact HS
  iintro ⟨HP, #HH, HS⟩
  iapply (wp_hop X Wv c 4 (by decide) _ _) $$ [HS]
  · isplitr; · iexact HC
    isplitr; · iexact HH
    iexact HS
  iintro HS
  iclear HH
  iapply (wp_creditWaits X Wv c 5 _ 5 1 1#32 (by decide) (by decide) (by decide) _) $$ [HP C5 HS]
  · isplitr; · iexact HC
    isplitl [HP]; · iexact HP
    isplitl [C5]; · iexact C5
    iexact HS
  iintro ⟨HP, #HH, HS⟩
  iapply (wp_hop X Wv c 5 (by decide) _ _) $$ [HS]
  · isplitr; · iexact HC
    isplitr; · iexact HH
    iexact HS
  iintro HS
  iclear HH
  iapply (wp_creditWaits X Wv c 6 _ 6 1 1#32 (by decide) (by decide) (by decide) _) $$ [HP C6 HS]
  · isplitr; · iexact HC
    isplitl [HP]; · iexact HP
    isplitl [C6]; · iexact C6
    iexact HS
  iintro ⟨HP, #HH, HS⟩
  iapply (wp_hop7 X Wv c _ _) $$ [HS]
  · isplitr; · iexact HC
    isplitr; · iexact HH
    iexact HS
  iintro ⟨⟨⟨r0, r1⟩, l0, l1⟩, HK, Hw, Ho, HO⟩
  iapply (wp_tailPart X Wv c 0 _ _) $$ [r0 l0 Hw Ho HO]
  · isplitr; · iexact HC
    isplitl [r0 l0]; · isplitl [r0] <;> iassumption
    isplitl [Hw]; · iexact Hw
    isplitl [Ho] <;> iassumption
  iintro ⟨E0, Hw, Ho, HO⟩
  iapply (wp_tailPart X Wv c 1 _ _) $$ [r1 l1 Hw Ho HO]
  · isplitr; · iexact HC
    isplitl [r1 l1]; · isplitl [r1] <;> iassumption
    isplitl [Hw]; · iexact Hw
    isplitl [Ho] <;> iassumption
  iintro ⟨E1, Hw, Ho, HO⟩
  iapply Hk
  isplitl [E0 E1 HK HP Hb]
  · isplitl [E0 E1 HK]
    · isplitl [E0]; · iexact E0
      isplitl [E1]; · iexact E1
      iexact HK
    isplitl [HP]; · iexact HP
    iexact Hb
  isplitl [HX]; · iexact HX
  isplitl [Hw]; · iexact Hw
  isplitl [Ho]; · iexact Ho
  iexact HO

theorem open_back (c : Dev nD) : iprop(Ctx X ∗ Open X c) ⊢ (|={Set.univ}=> Back c : sProp 𝕄) := by
  unfold Open Back
  iintro ⟨#HC, HE, ⟨Pr, Pl⟩, Hb⟩
  imod (close_all X c) $$ [HE] with HE
  · isplitr <;> iassumption
  imod (close_cr X .r c) $$ [Pr] with Pr
  · isplitr <;> iassumption
  imod (close_cr X .l c) $$ [Pl] with Pl
  · isplitr <;> iassumption
  imod (close_bar X c) $$ [Hb] with Hb
  · isplitr <;> iassumption
  imodintro
  isplitl [HE]; · iexact HE
  isplitr [Hb]
  · isplitl [Pr] <;> iassumption
  iexact Hb

theorem wp_body (c : Dev nD) (Φ : PUnit → sProp 𝕄) :
    iprop(Ctx X ∗ Dealt c ∗ Own2 c ∗ XSt X c ∗ WSt Wv c ∗ OutSt X Wv c [] ∗ OW c allEnts)
      ⊢ iprop((Back c ∗ XSt X c ∗ WSt Wv c ∗ OutSt X Wv c (Dfin c) ∗ OW c [] -∗ Φ ⟨⟩) -∗ WP c (body xM wM oM (T c) c) Φ) := by
  iintro ⟨#HC, H⟩ Hk
  iapply (wp_fupd _ _ _ _ _)
  iapply (wp_body_open X Wv c _) $$ [H]
  · isplitr <;> iassumption
  iintro ⟨HB, H⟩
  imod (open_back X c) $$ [HB] with HB
  · isplitr <;> iassumption
  imodintro
  iapply Hk
  isplitl [HB] <;> iassumption

end Cert.RingProof

end
-- ==== Proof.Areas.lean ====
/- The staged block and the receive buffers, whole and by pieces. -/
module

public import proofs.«01_k».proof.Proof.Body

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ

variable (X : Dev nD → S256x4096.Idx → Elt F .f32) (Wv : Dev nD → S4096x128.Idx → Elt F .f32)

/-! ## Families over the pieces -/

theorem sep_flat (P Q R : sProp 𝕄) : iprop((P ∗ Q) ∗ R) = iprop(P ∗ Q ∗ R) := equiv_iff.mp ⟨BI.sep_assoc, BI.sep_assoc'⟩

theorem big_A4 (f : Fin 2 → Fin 2 → sProp 𝕄) : bigSep Finset.univ (fun x : Fin 2 × Fin 2 => f x.1 x.2) = A4 f :=
  bigSep_univ_eq_bigSepL [(0, 0), (0, 1), (1, 0), (1, 1)] (by decide) (by decide) _
theorem big_A8 (f : Dir → Fin 2 → Fin 2 → sProp 𝕄) : bigSep Finset.univ (fun x : Dir × Fin 2 × Fin 2 => f x.1 x.2.1 x.2.2) = A8 f := by
  rw [bigSep_univ_eq_bigSepL [(.r, 0, 0), (.l, 0, 0), (.r, 0, 1), (.l, 0, 1), (.r, 1, 0), (.l, 1, 0), (.r, 1, 1), (.l, 1, 1)] (by decide) (by decide) _]
  unfold A8 Two
  rw [sep_flat, sep_flat, sep_flat]
  rfl
theorem big_3 (f : Fin 3 → sProp 𝕄) : bigSep Finset.univ f = iprop(f 0 ∗ f 1 ∗ f 2) :=
  bigSep_univ_eq_bigSepL [0, 1, 2] (by decide) (by decide) _
theorem big_B (f : Bool → sProp 𝕄) : bigSep Finset.univ f = iprop(f true ∗ f false) :=
  bigSep_univ_eq_bigSepL [true, false] (by decide) (by decide) _
theorem A8_mono {f g : Dir → Fin 2 → Fin 2 → sProp 𝕄} (h : ∀ δ p s, f δ p s ⊢ g δ p s) : A8 f ⊢ A8 g := by
  rw [← big_A8, ← big_A8]; exact bigSep_mono fun x _ => h _ _ _
theorem A8_sep_eq (f g : Dir → Fin 2 → Fin 2 → sProp 𝕄) : A8 (fun δ p s => iprop(f δ p s ∗ g δ p s)) = iprop(A8 f ∗ A8 g) := by
  rw [← big_A8, ← big_A8, ← big_A8]; exact bigSep_sep' _ _ _

/-! ## The staged block -/

def xr (t : Fin 2 × Fin 2) : Rect S256x4096 := Rect.unit (s := S256x4096) ![128 * t.1.val + 64 * t.2.val, 0] S64x4096.size (inbX t.1 t.2)
theorem xr_mem (t : Fin 2 × Fin 2) (i : S256x4096.Idx) : i ∈ (xr t).set ↔ (128 * t.1.val + 64 * t.2.val ≤ (i 0).val ∧ (i 0).val < 128 * t.1.val + 64 * t.2.val + 64) := by
  unfold xr
  rw [Rect.mem_set_unit]
  have b1 : (i 1).val < 4096 := (i 1).isLt
  constructor
  · intro h; exact h 0
  · intro h a
    match a with
    | ⟨0, _⟩ => exact h
    | ⟨1, _⟩ => exact ⟨Nat.zero_le _, by show (i 1).val < 0 + 4096; omega⟩
theorem xr_disj (t t' : Fin 2 × Fin 2) (h : t ≠ t') : Disjoint (xr t).set (xr t').set := by
  refine Finset.disjoint_left.mpr fun i h1 h2 => h ?_
  rw [xr_mem] at h1 h2
  exact Prod.ext (Fin.ext (by omega)) (Fin.ext (by omega))
theorem xr_cover : (Finset.univ : Finset (Fin 2 × Fin 2)).biUnion (fun t => (xr t).set) = Finset.univ := by
  refine Finset.eq_univ_iff_forall.mpr fun i => Finset.mem_biUnion.mpr ?_
  have b0 : (i 0).val < 256 := (i 0).isLt
  refine ⟨(⟨(i 0).val / 128, by omega⟩, ⟨(i 0).val % 128 / 64, by omega⟩), Finset.mem_univ _, ?_⟩
  rw [xr_mem]
  show 128 * ((i 0).val / 128) + 64 * ((i 0).val % 128 / 64) ≤ _ ∧ _ < 128 * ((i 0).val / 128) + 64 * ((i 0).val % 128 / 64) + 64
  omega

theorem x_split (c : Dev nD) (q : PosShare TreeShare) :
    ((c : Thread nD τ).loc cc0_stg0_0 ↦{q} X c : sProp 𝕄) ⊢ A4 (fun p s => Xp c p s q (Vx X c p s)) := by
  rw [← owns_whole, ← big_A4]
  exact owns_rects (c : Thread nD τ) xM q xr (fun _ _ => rfl) xr_disj xr_cover (X c)
theorem x_join (c : Dev nD) (q : PosShare TreeShare) :
    A4 (fun p s => Xp c p s q (Vx X c p s)) ⊢ ((c : Thread nD τ).loc cc0_stg0_0 ↦{q} X c : sProp 𝕄) := by
  rw [← owns_whole, ← big_A4]
  exact owns_of_rects (c : Thread nD τ) xM q xr (fun _ _ => rfl) xr_disj xr_cover (X c)

theorem XSt_intro (c : Dev nD) : ((c : Thread nD τ).loc cc0_stg0_0 ↦{fullShare} X c : sProp 𝕄) ⊢ XSt X c := by
  unfold XSt XK
  iintro H
  ihave H := (pointsTo_share (ℓ := (c : Thread nD τ).loc cc0_stg0_0) (I := Finset.univ) (f := X c) (PosShare.mem_left_op_right fullShare)).1 $$ H
  icases H with ⟨H1, H2⟩
  ihave H2 := (pointsTo_share (ℓ := (c : Thread nD τ).loc cc0_stg0_0) (I := Finset.univ) (f := X c) (PosShare.mem_left_op_right fullShare.right)).1 $$ H2
  icases H2 with ⟨H2, H3⟩
  isplitl [H1]; · iexact H1
  iapply (dirs_A8 _)
  isplitl [H2]
  · iapply (x_split X c _); iexact H2
  · iapply (x_split X c _); iexact H3
theorem XSt_elim (c : Dev nD) : XSt X c ⊢ ((c : Thread nD τ).loc cc0_stg0_0 ↦{fullShare} X c : sProp 𝕄) := by
  unfold XSt XK
  iintro ⟨H1, H⟩
  ihave H := (A8_dirs _) $$ H
  icases H with ⟨H2, H3⟩
  ihave H2 := (x_join X c _) $$ H2
  ihave H3 := (x_join X c _) $$ H3
  iapply (pointsTo_share (ℓ := (c : Thread nD τ).loc cc0_stg0_0) (I := Finset.univ) (f := X c) (PosShare.mem_left_op_right fullShare)).2
  isplitl [H1]; · iexact H1
  iapply (pointsTo_share (ℓ := (c : Thread nD τ).loc cc0_stg0_0) (I := Finset.univ) (f := X c) (PosShare.mem_left_op_right fullShare.right)).2
  isplitl [H2]; · iexact H2
  iexact H3

/-! ## The receive buffers -/

/-- A receive buffer, whole, whatever it holds. -/
def Scr (δ : Dir) (c : Dev nD) : sProp 𝕄 := iprop(∃ f : Buf (Elt F) ((bufM δ).view.loc (c : Thread nD τ)), (bufM δ).view.loc (c : Thread nD τ) ↦{fullShare} f)

/-- The elements of a piece, in the buffer. -/
def pset (δ : Dir) (x : Fin 3 × Fin 2 × Fin 2) : Finset (bufM δ).view.ty.Idx := (pieceM δ x.1 x.2.1 x.2.2).view.set
theorem pset_eq (δ : Dir) (x : Fin 3 × Fin 2 × Fin 2) : pset δ x
    = (Rect.unit (s := S3x2x128x4096) ![x.1.val, x.2.1.val, 64 * x.2.2.val, 0] S1x1x64x4096.size (inbP x.1 x.2.1 x.2.2)).set.map (bufM δ).view.emb :=
  piece_set ..

theorem big_Bufs (δ : Dir) (c : Dev nD) : bigSep Finset.univ (fun x : Fin 3 × Fin 2 × Fin 2 => slotP (F := F) δ c x.1 x.2.1 x.2.2) = Bufs δ c := by
  rw [bigSep_univ_prod (fun x : Fin 3 × Fin 2 × Fin 2 => slotP (F := F) δ c x.1 x.2.1 x.2.2), big_3]
  unfold Bufs
  rw [← big_A4, ← big_A4, ← big_A4]

theorem bufM_emb (δ : Dir) : Finset.univ.map (bufM δ).view.emb = Finset.univ := by cases δ <;> exact View.set_whole _
theorem buf_cover (δ : Dir) : (Finset.univ : Finset (Fin 3 × Fin 2 × Fin 2)).biUnion (pset δ) = Finset.univ := by
  rw [← bufM_emb δ]
  refine Finset.Subset.antisymm ?_ ?_
  · refine Finset.biUnion_subset.mpr fun x _ => ?_
    rw [pset_eq]
    exact Finset.map_subset_map.mpr (Finset.subset_univ _)
  · intro j hj
    obtain ⟨i, -, rfl⟩ := Finset.mem_map.mp hj
    have b0 : (i 0).val < 3 := (i 0).isLt
    have b1 : (i 1).val < 2 := (i 1).isLt
    have b2 : (i 2).val < 128 := (i 2).isLt
    have b3 : (i 3).val < 4096 := (i 3).isLt
    refine Finset.mem_biUnion.mpr ⟨(⟨(i 0).val, b0⟩, ⟨(i 1).val, b1⟩, ⟨(i 2).val / 64, by omega⟩), Finset.mem_univ _, ?_⟩
    rw [pset_eq]
    refine Finset.mem_map_of_mem _ ?_
    rw [Rect.mem_set_unit]
    intro a
    match a with
    | ⟨0, _⟩ => exact ⟨Nat.le_refl _, by show (i 0).val < (i 0).val + 1; omega⟩
    | ⟨1, _⟩ => exact ⟨Nat.le_refl _, by show (i 1).val < (i 1).val + 1; omega⟩
    | ⟨2, _⟩ => exact ⟨by show 64 * ((i 2).val / 64) ≤ (i 2).val; omega, by show (i 2).val < 64 * ((i 2).val / 64) + 64; omega⟩
    | ⟨3, _⟩ => exact ⟨Nat.zero_le _, by show (i 3).val < 0 + 4096; omega⟩
theorem buf_disj (δ : Dir) (x y : Fin 3 × Fin 2 × Fin 2) (h : x ≠ y) : Disjoint (pset δ x) (pset δ y) :=
  piece_disj δ _ _ _ _ _ _ h

theorem slotP_of (δ : Dir) (c : Dev nD) (x : Fin 3 × Fin 2 × Fin 2) (f : Buf (Elt F) ((bufM δ).view.loc (c : Thread nD τ))) :
    ((bufM δ).view.loc (c : Thread nD τ) ↦[pset δ x]{fullShare} f : sProp 𝕄) ⊢ slotP δ c x.1 x.2.1 x.2.2 := by
  unfold slotP Release.slot
  iintro H
  iexists f
  iexact H
theorem slotP_in (δ : Dir) (c : Dev nD) (f : Buf (Elt F) ((bufM δ).view.loc (c : Thread nD τ))) :
    (bigSep Finset.univ fun x : Fin 3 × Fin 2 × Fin 2 => (bufM δ).view.loc (c : Thread nD τ) ↦[pset δ x]{fullShare} f)
      ⊢ (bigSep Finset.univ fun x : Fin 3 × Fin 2 × Fin 2 => slotP δ c x.1 x.2.1 x.2.2 : sProp 𝕄) :=
  bigSep_mono fun x _ => slotP_of δ c x f
theorem Scr_split (δ : Dir) (c : Dev nD) : Scr δ c ⊢ (Bufs δ c : sProp 𝕄) := by
  rw [← big_Bufs]
  unfold Scr
  iintro ⟨%f, H⟩
  iapply (slotP_in δ c f)
  rw [← pointsTo_biUnion (ℓ := (bufM δ).view.loc (c : Thread nD τ)) (f := f) Finset.univ _ (fun x _ y _ h => buf_disj δ x y h), buf_cover]
  iexact H

theorem slotP_out (δ : Dir) (c : Dev nD) (x : Fin 3 × Fin 2 × Fin 2) : (slotP δ c x.1 x.2.1 x.2.2 : sProp 𝕄)
    ⊢ iprop(∃ f : Buf (Elt F) ((bufM δ).view.loc (c : Thread nD τ)), (bufM δ).view.loc (c : Thread nD τ) ↦[(pset δ x)]{fullShare} f) :=
  Entails.rfl
theorem Scr_join (δ : Dir) (c : Dev nD) : Bufs δ c ⊢ (Scr δ c : sProp 𝕄) := by
  rw [← big_Bufs]
  refine (bigSep_mono fun x _ => slotP_out δ c x).trans ((BI.bigSep_exists_pi Finset.univ _).trans ?_)
  unfold Scr
  iintro ⟨%fs, H⟩
  ihave H := (pointsTo_biUnion_join (ℓ := (bufM δ).view.loc (c : Thread nD τ)) Finset.univ (pset δ) fs (fs (0, 0, 0))
    (fun x _ y _ h => buf_disj δ x y h)) $$ H
  icases H with ⟨%g, -, H⟩
  iexists g
  rw [buf_cover]
  iexact H

end Cert.RingProof

end
-- ==== Proof.Fund.lean ====
/- What the launch deals: the cells of a device, and the tokens of what it pays. -/
module

public import proofs.«01_k».proof.Proof.Areas

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ

variable (X : Dev nD → S256x4096.Idx → Elt F .f32)

/-! ## The cells of a device -/

/-- The semaphores of a piece: three receive (`true`) and three send. -/
def pieceCell (x : (Dir × Fin 2 × Fin 2) × Bool × Fin 3) : Fin 51 :=
  if x.2.1 then rvI x.1.1 x.2.2 x.1.2.1 x.1.2.2 else sdI x.1.1 x.2.2 x.1.2.1 x.1.2.2
theorem pieceCell_inj : Function.Injective pieceCell := by decide +kernel
theorem cells_univ : (Finset.univ : Finset (Fin 51)) = insert 0 (insert (crI .r) (insert (crI .l) (Finset.univ.map ⟨pieceCell, pieceCell_inj⟩))) := by
  decide +kernel

/-- What all six semaphores of a piece hold. -/
def Six (f : Fin 51 → sProp 𝕄) (δ : Dir) (p s : Fin 2) : sProp 𝕄 :=
  iprop((f (rvI δ 0 p s) ∗ f (rvI δ 1 p s) ∗ f (rvI δ 2 p s)) ∗ (f (sdI δ 0 p s) ∗ f (sdI δ 1 p s) ∗ f (sdI δ 2 p s)))

theorem big_cells (f : Fin 51 → sProp 𝕄) : bigSep Finset.univ f = iprop(f 0 ∗ f (crI .r) ∗ f (crI .l) ∗ A8 (Six f)) := by
  refine (congrArg (fun S => bigSep S f) cells_univ).trans ?_
  have h : bigSep (Finset.univ.map ⟨pieceCell, pieceCell_inj⟩) f = A8 (Six f) := by
    rw [bigSep_map, ← big_A8]
    refine (bigSep_univ_prod _).trans (bigSep_congr fun x _ => ?_)
    refine (bigSep_univ_prod _).trans ?_
    rw [big_B, big_3, big_3]
    rfl
  show bigSep (insert _ _) f = _
  rw [bigSep_insert (by decide +kernel), bigSep_insert (by decide +kernel), bigSep_insert (by decide +kernel), h]
  rfl
theorem big_succ (f : Fin 51 → sProp 𝕄) : bigSep Finset.univ f = iprop(f 0 ∗ bigSep Finset.univ (fun i : Fin 50 => f i.succ)) := by
  rw [Fin.univ_succ, Finset.cons_eq_insert, bigSep_insert (by simp), bigSep_map]
  rfl

/-- The semaphores that the kernel allocates: all but the barrier. -/
def osem : Fin 50 → SemLoc sig := fun i => csem i.succ

theorem unscoped_eq (c : Dev nD) : (unscopedSems0 c : sProp 𝕄) = semVal (barC c) 0 := by
  unfold unscopedSems0; rw [bigSep_eq_bigSepL_of_eq [SemLoc.reg barS] (by decide) (by decide)]; rfl

/-- The semaphores of a device at zero. -/
theorem zeros (c : Dev nD) : (bigSep Finset.univ fun k : Fin 51 => semVal (kcell (c, k)) 0 : sProp 𝕄)
    = iprop(unscopedSems0 c ∗ Pipeline.ownSems0 (Ix := ℕ) (Name := ℕ) (U := UU) (Lvl := ℕ) (Val := Elt F) (τ := τ) osem c) := by
  rw [big_succ, unscoped_eq]; rfl

theorem fin_split (δ : Dir) (c : Dev nD) (p s : Fin 2) :
    Fin1 δ c p s ⊢ (iprop(Six (fun k => semVal (kcell (c, k)) 0) δ p s ∗ slotP δ c 0 p s ∗ slotP δ c 1 p s ∗ slotP δ c 2 p s) : sProp 𝕄) := by
  unfold Fin1 Six
  simp only [kcell_rv, kcell_sd]
  iintro ⟨H1, H2, H3⟩
  isplitr [H3]
  · isplitl [H1] <;> iassumption
  iexact H3

theorem A4_bufs (δ : Dir) (c : Dev nD) :
    A4 (fun p s => iprop(slotP δ c 0 p s ∗ slotP δ c 1 p s ∗ slotP δ c 2 p s)) ⊢ (Bufs δ c : sProp 𝕄) := by
  unfold Bufs
  iintro H
  ihave H := (A4_sep _ _) $$ H
  icases H with ⟨H0, H⟩
  ihave H := (A4_sep _ _) $$ H
  icases H with ⟨H1, H2⟩
  isplitl [H0]; · iexact H0
  isplitl [H1] <;> iassumption

/-- What the body gives back, as the launch takes it. -/
theorem back_split (c : Dev nD) :
    Back c ⊢ (iprop(unscopedSems0 c ∗ Pipeline.ownSems0 (Ix := ℕ) (Name := ℕ) (U := UU) (Lvl := ℕ) (Val := Elt F) (τ := τ) osem c ∗ Scr .r c ∗ Scr .l c) : sProp 𝕄) := by
  have hA : A8 (fun δ p s => Fin1 δ c p s) ⊢ (iprop(A8 (Six fun k => semVal (kcell (c, k)) 0)
      ∗ A8 (fun δ p s => iprop(slotP δ c 0 p s ∗ slotP δ c 1 p s ∗ slotP δ c 2 p s))) : sProp 𝕄) :=
    (A8_mono fun δ p s => fin_split δ c p s).trans (Entails.of_eq (A8_sep_eq _ _))
  have hz := zeros (F := F) c
  rw [big_cells, kcell_cr, kcell_cr, kcell_bar] at hz
  unfold Back
  iintro ⟨HA, ⟨Hr, Hl⟩, Hb⟩
  ihave HA := hA $$ HA
  icases HA with ⟨H6, HS⟩
  ihave HS := (A8_dirs _) $$ HS
  icases HS with ⟨Sr, Sl⟩
  ihave HZ := (Entails.of_eq hz) $$ [H6 Hr Hl Hb]
  · isplitl [Hb]; · iexact Hb
    isplitl [Hr]; · iexact Hr
    isplitl [Hl]; · iexact Hl
    iexact H6
  icases HZ with ⟨HU, HO⟩
  isplitl [HU]; · iexact HU
  isplitl [HO]; · iexact HO
  isplitl [Sr]
  · iapply (Scr_join .r c); iapply (A4_bufs .r c); iexact Sr
  · iapply (Scr_join .l c); iapply (A4_bufs .l c); iexact Sl

/-! ## The tokens -/

/-- The duties that a device pays: for a piece and a hop, of its own send cell, of the neighbour's receive cell, of
    the other neighbour's credit cell and of that neighbour's barrier. -/
abbrev J : Type := (Dir × Fin 2 × Fin 2) × Fin 8 × Fin 4
def jMove (j : J) : Dev nD ≃ Dev nD := match j.2.2 with
  | 0 => Equiv.refl _ | 1 => nbrE j.1.1 | 2 => (nbrE j.1.1).symm | 3 => (nbrE j.1.1).symm
def jDuty (j : J) : SemLoc sig × ℕ × ℕ := match j.2.2 with
  | 0 => (.dma (sSem j.1.1 (sS j.2.1) j.1.2.1 j.1.2.2), sR j.2.1, 0)
  | 1 => (.dma (rSem j.1.1 (sl (j.2.1 + 1)) j.1.2.1 j.1.2.2), j.2.1 / 3, 0)
  | 2 => (.reg (creditS j.1.1), 0, j.2.1 + 8 * (2 * j.1.2.1 + j.1.2.2))
  | 3 => (.reg barS, 0, (if j.1.1 = .r then 0 else 1) + 2 * (j.2.1 + 8 * (2 * j.1.2.1 + j.1.2.2)))
set_option backward.proofsInPublic true in
def fin8 (n : ℕ) : Fin 8 := ⟨n % 8, Nat.mod_lt _ (by decide)⟩
def jOf (x : SemLoc sig × ℕ × ℕ) : J := match dec x.1 with
  | .sd δ k p s => ((δ, p, s), fin8 (sHop k x.2.1), 0)
  | .rv δ k p s => ((δ, p, s), fin8 (rHop k x.2.1), 1)
  | .cr δ => ((δ, fin2 (x.2.2 / 16), fin2 (x.2.2 / 8)), fin8 x.2.2, 2)
  | .bar => ((if x.2.2 % 2 = 0 then .r else .l, fin2 (x.2.2 / 32), fin2 (x.2.2 / 16)), fin8 (x.2.2 / 2), 3)
  | .other => default
theorem jOf_jDuty : ∀ j, jOf (jDuty j) = j := by decide +kernel

def tokOf (cj : Dev nD × J) : GSem nD τ sig × ℕ × ℕ :=
  ((((jMove cj.2 cj.1 : Dev nD) : Thread nD τ), (jDuty cj.2).1), (jDuty cj.2).2.1, (jDuty cj.2).2.2)
theorem tokOf_inj : Function.Injective tokOf := by
  rintro ⟨c, j⟩ ⟨c', j'⟩ h
  have h1 : jDuty j = jDuty j' := congrArg (fun x : GSem nD τ sig × ℕ × ℕ => (x.1.2, x.2.1, x.2.2)) h
  have h2 : j = j' := by rw [← jOf_jDuty j, h1, jOf_jDuty]
  subst h2
  have h3 : jMove j c = jMove j c' := congrArg (fun x : GSem nD τ sig × ℕ × ℕ => x.1.1.1) h
  rw [(jMove j).injective h3]
theorem kcell_inj : Function.Injective (kcell : Dev nD × Fin 51 → GSem nD τ sig) := by
  have hs : Function.Injective csem := by decide +kernel
  rintro ⟨c, k⟩ ⟨c', k'⟩ h
  have h1 : c = c' := congrArg (fun g : GSem nD τ sig => g.1.1) h
  exact Prod.ext h1 (hs (congrArg Prod.snd h))
def ringCells : Finset (GSem nD τ sig) := Finset.univ.map ⟨kcell, kcell_inj⟩
def ringToks : Finset (GSem nD τ sig × ℕ × ℕ) := Finset.univ.map ⟨tokOf, tokOf_inj⟩

/-- The tokens of what device `c` pays. -/
def toks (c : Dev nD) : sProp 𝕄 := bigSep Finset.univ fun j : J => dutyTok ER (tokOf (c, j)).1 (tokOf (c, j)).2.1 (tokOf (c, j)).2.2

theorem big_8 (A : ℕ → sProp 𝕄) : bigSep (Finset.Ico 0 8) A = bigSep Finset.univ fun h : Fin 8 => A h.val := by
  rw [show Finset.Ico 0 8 = (Finset.univ : Finset (Fin 8)).map Fin.valEmbedding from by decide, bigSep_map]; rfl
theorem big_4 (f : Fin 4 → sProp 𝕄) : bigSep Finset.univ f = iprop(f 0 ∗ f 1 ∗ f 2 ∗ f 3) :=
  bigSep_univ_eq_bigSepL [0, 1, 2, 3] (by decide) (by decide) _

/-- The credit tokens and the barrier tokens of a piece; those of piece `(0, 0)` are used. -/
def CTx (c : Dev nD) (δ : Dir) (p s : Fin 2) : sProp 𝕄 :=
  bigSep (Finset.Ico 0 8) fun h => dutyTok ER (crC δ (prv δ c)) 0 (h + 8 * (2 * p.val + s.val))
def BTx (c : Dev nD) (δ : Dir) (p s : Fin 2) : sProp 𝕄 :=
  bigSep (Finset.Ico 0 8) fun h => dutyTok ER (barC (prv δ c)) 0 ((if δ = .r then 0 else 1) + 2 * (h + 8 * (2 * p.val + s.val)))
def STx (c : Dev nD) (δ : Dir) (p s : Fin 2) : sProp 𝕄 := bigSep (Finset.Ico 0 8) fun h => SendTok δ c h p s

theorem toks_eq (c : Dev nD) : toks c ⊢ (iprop(A8 (STx c) ∗ A8 (CTx c) ∗ A8 (BTx c)) : sProp 𝕄) := by
  unfold toks
  rw [← A8_sep_eq, ← A8_sep_eq, ← big_A8, bigSep_univ_prod]
  refine bigSep_mono fun x _ => ?_
  rw [bigSep_univ_prod]
  unfold STx CTx BTx
  rw [big_8, big_8, big_8, ← bigSep_sep', ← bigSep_sep']
  refine bigSep_mono fun h _ => ?_
  rw [big_4]
  unfold SendTok
  exact Entails.of_eq (sep_flat _ _ _).symm

theorem CTx_CT (δ : Dir) (c : Dev nD) : CTx c δ 0 0 ⊢ (CT δ c 0 : sProp 𝕄) := by
  unfold CTx CT
  exact bigSep_subset (Finset.Ico_subset_Ico_right (by decide))
theorem A8_zeros (f : Dir → Fin 2 → Fin 2 → sProp 𝕄) : A8 f ⊢ iprop(f .r 0 0 ∗ f .l 0 0) := by
  unfold A8 Two
  iintro ⟨⟨H1, H2, -⟩, -⟩
  isplitl [H1] <;> iassumption
theorem BTx_get (δ : Dir) (c : Dev nD) : BTx c δ 0 0 ⊢ (dutyTok ER (barC (prv δ c)) 0 (if δ = .r then 0 else 1) : sProp 𝕄) := by
  unfold BTx
  exact bigSep_elim (i := 0) (Finset.mem_Ico.mpr ⟨Nat.le_refl _, by decide⟩)

/-- The tokens as the body takes them. -/
theorem toks_split (c : Dev nD) : toks c ⊢ (iprop(A8 (STx c) ∗ (CT .r c 0 ∗ CT .l c 0)
    ∗ (dutyTok ER (barC (prv .r c)) 0 0 ∗ dutyTok ER (barC (prv .l c)) 0 1)) : sProp 𝕄) := by
  iintro H
  ihave H := (toks_eq c) $$ H
  icases H with ⟨HS, HC, HB⟩
  ihave HC := (A8_zeros _) $$ HC
  icases HC with ⟨C1, C2⟩
  ihave HB := (A8_zeros _) $$ HB
  icases HB with ⟨B1, B2⟩
  ihave B1 := (BTx_get .r c) $$ B1
  ihave B2 := (BTx_get .l c) $$ B2
  isplitl [HS]; · iexact HS
  isplitl [C1 C2]
  · isplitl [C1]
    · iapply (CTx_CT .r c); iexact C1
    · iapply (CTx_CT .l c); iexact C2
  isplitl [B1]; · iexact B1
  iexact B2

end Cert.RingProof

end
-- ==== Proof.Deal.lean ====
/- What the launch deals: the rights to the slots, and the credits of what is owed. -/
module

public import proofs.«01_k».proof.Proof.Fund

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig ℕ (Elt F) ℕ UU ℕ

variable (X : Dev nD → S256x4096.Idx → Elt F .f32)

/-! ## The slots' releases -/

/-- A device, a piece and an arrival, as the key that the device reads with, -/
def rdE : (Dev nD × (Dir × Fin 2 × Fin 2) × Fin 8) ≃ Key where
  toFun y := (y.1, y.2.1.1, y.2.2, y.2.1.2.1, y.2.1.2.2)
  invFun k := (k.1, (k.2.1, k.2.2.2.1, k.2.2.2.2), k.2.2.1)
  left_inv _ := rfl
  right_inv _ := rfl
/-- and a device, a piece and a hop, as the key that the device writes with: the neighbour's arrival two before. -/
def wrE : (Dev nD × (Dir × Fin 2 × Fin 2) × Fin 8) ≃ Key where
  toFun y := (nbr y.2.1.1 y.1, y.2.1.1, y.2.2 + 6, y.2.1.2.1, y.2.1.2.2)
  invFun k := (prv k.2.1 k.1, (k.2.1, k.2.2.2.1, k.2.2.2.2), k.2.2.1 + 2)
  left_inv y := by
    have h : ∀ n : Fin 8, n + 6 + 2 = n := by decide
    exact Prod.ext (prv_nbr _ _) (Prod.ext rfl (h _))
  right_inv k := by
    have h : ∀ n : Fin 8, n + 2 + 6 = n := by decide
    exact Prod.ext (nbr_prv _ _) (Prod.ext rfl (Prod.ext (h _) rfl))

def RDx (c : Dev nD) (δ : Dir) (p s : Fin 2) : sProp 𝕄 := bigSep (Finset.Ico 0 8) fun i => Rdr δ c i p s
def WRx (c : Dev nD) (δ : Dir) (p s : Fin 2) : sProp 𝕄 := bigSep (Finset.Ico 0 8) fun i => Wr δ c i p s

theorem key_fin (δ : Dir) (c : Dev nD) (n : Fin 8) (p s : Fin 2) : key δ c n.val p s = (c, δ, n, p, s) := by
  unfold key
  exact Prod.ext rfl (Prod.ext rfl (Prod.ext (Fin.ext (Nat.mod_eq_of_lt n.isLt)) rfl))

theorem readers_deal : (bigSep Finset.univ fun k : Key => (Release.readerAt ES k 0 : sProp 𝕄)) ⊢ bigSep Finset.univ fun c : Dev nD => A8 (RDx c) := by
  rw [bigSep_univ_equiv rdE, bigSep_univ_prod]
  refine bigSep_mono fun c _ => ?_
  rw [bigSep_univ_prod, ← big_A8]
  refine bigSep_mono fun x _ => ?_
  unfold RDx Rdr
  rw [big_8]
  refine bigSep_mono fun n _ => ?_
  rw [key_fin, show rdE (c, x, n) = (c, x.1, n, x.2.1, x.2.2) from rfl]; exact BI.Entails.refl _

theorem writer_use (δ : Dir) (c : Dev nD) (n : Fin 8) (p s : Fin 2) :
    (Release.writeTok ES (nbr δ c, δ, n + 6, p, s) 1 : sProp 𝕄) ⊢ Wr δ c n.val p s := by
  unfold Wr
  have h6 : ∀ n : Fin 8, ¬ n.val < 3 → (n + 6).val = n.val - 2 := by decide
  by_cases h : n.val < 3
  · rw [if_pos h]; exact (show (Release.writeTok ES (nbr δ c, δ, n + 6, p, s) 1 : sProp 𝕄) ⊢ iprop(emp) by iintro -; iempintro)
  · rw [if_neg h, ← h6 n h, key_fin]
theorem writers_deal : (bigSep (Finset.univ ×ˢ Finset.range 1) fun x : Key × ℕ => (Release.writeTok ES x.1 (x.2 + 1) : sProp 𝕄))
    ⊢ bigSep Finset.univ fun c : Dev nD => A8 (WRx c) := by
  have h0 : (Finset.univ ×ˢ Finset.range 1 : Finset (Key × ℕ)) = Finset.univ.map ⟨fun k => (k, 0), fun a b h => congrArg Prod.fst h⟩ := by
    ext x
    rw [Finset.mem_product, Finset.mem_range, Finset.mem_map]
    exact ⟨fun h => ⟨x.1, Finset.mem_univ _, Prod.ext rfl (Nat.lt_one_iff.1 h.2).symm⟩, by rintro ⟨k, -, rfl⟩; exact ⟨Finset.mem_univ _, Nat.one_pos⟩⟩
  rw [h0, bigSep_map, bigSep_univ_equiv wrE, bigSep_univ_prod]
  refine bigSep_mono fun c _ => ?_
  rw [bigSep_univ_prod, ← big_A8]
  refine bigSep_mono fun x _ => ?_
  unfold WRx
  rw [big_8]
  exact bigSep_mono fun n _ => writer_use _ _ _ _ _

/-! ## The credits -/

/-- What the launch's dues bring device `c`, by the list of them; -/
def LC (l : List Ent) (c : Dev nD) : sProp 𝕄 := Pipeline.launchCred (fun d => obl d l) c
/-- an entry's. -/
def CE (c : Dev nD) (e : Ent) : sProp 𝕄 := cred (tallyAt ((c : Thread nD τ), e.2.1) e.2.2.1 e.2.2.2)

theorem LC_cons (c : Dev nD) (e : Ent) (l : List Ent) : LC (e :: l) c ⊢ (iprop(CE c e ∗ LC l c) : sProp 𝕄) := by
  have h := Pipeline.launchCred_add (Name := ℕ) (U := UU) (Val := Elt F) (Lvl := ℕ) (fun d => obl d l) (fun d => tallyAt (((e.1 d : Dev nD) : Thread nD τ), e.2.1) e.2.2.1 e.2.2.2) c
  have h2 := Pipeline.launchCred_tallyAt (τ := τ) (Name := ℕ) (U := UU) (Val := Elt F) (Lvl := ℕ) e.2.1 e.1 e.1.symm (e.1.apply_symm_apply) (e.1.symm_apply_apply) e.2.2.1 e.2.2.2 c
  unfold LC CE
  rw [show (fun d => obl d (e :: l)) = fun d => obl d l + tallyAt (((e.1 d : Dev nD) : Thread nD τ), e.2.1) e.2.2.1 e.2.2.2 from funext fun d => obl_cons d e l]
  iintro H
  ihave H := (Entails.of_eq h) $$ H
  icases H with ⟨H1, H2⟩
  isplitl [H2]
  · iapply h2; iexact H2
  · iexact H1

theorem CE_send (c : Dev nD) (δ : Dir) (h : ℕ) (p s : Fin 2) : CE c (sendEnt δ h p s) ⊢ (CrdR δ c h p s : sProp 𝕄) := Entails.of_eq rfl

theorem CE_bar (c : Dev nD) (δ : Dir) : CE c (barEnt δ) ⊢ (cred (tallyAt (barC c) 1 1) : sProp 𝕄) := Entails.of_eq rfl

theorem LC_part (c : Dev nD) (h : ℕ) (p : Fin 2) (l : List Ent) :
    LC (partEnts h p l) c ⊢ (iprop(Two (fun δ s => CrdR δ c h p s) ∗ LC l c) : sProp 𝕄) := by
  unfold partEnts Two
  iintro H
  ihave H := (LC_cons c _ _) $$ H
  icases H with ⟨H1, H⟩
  ihave H := (LC_cons c _ _) $$ H
  icases H with ⟨H2, H⟩
  ihave H := (LC_cons c _ _) $$ H
  icases H with ⟨H3, H⟩
  ihave H := (LC_cons c _ _) $$ H
  icases H with ⟨H4, H⟩
  isplitr [H]
  · isplitl [H1]; · iapply (CE_send c .r h p 0); iexact H1
    isplitl [H2]; · iapply (CE_send c .l h p 0); iexact H2
    isplitl [H3]; · iapply (CE_send c .r h p 1); iexact H3
    iapply (CE_send c .l h p 1); iexact H4
  iexact H

/-- The credits for hop `i` of a piece, if it moves; -/
def Dm (c : Dev nD) (δ : Dir) (p s : Fin 2) (i : ℕ) : sProp 𝕄 := if dom δ i p then CrdR δ c i p s else iprop(emp)
/-- of the signals at hop `h`. -/
def CrE (c : Dev nD) (h : ℕ) : sProp 𝕄 := iprop(CE c (credEnt .r h) ∗ CE c (credEnt .l h))

theorem CrE_intro (c : Dev nD) (h : ℕ) : iprop(CE c (credEnt .r h) ∗ CE c (credEnt .l h)) ⊢ (CrE c h : sProp 𝕄) := Entails.rfl

theorem Dm_lt (c : Dev nD) (δ : Dir) (p s : Fin 2) (i : ℕ) (hi : i < 7) : CrdR δ c i p s ⊢ (Dm c δ p s i : sProp 𝕄) := by
  unfold Dm; rw [if_pos (Or.inl hi)]

theorem LC_last (c : Dev nD) : LC lastEnts c ⊢ (A8 (fun δ p s => Dm c δ p s 7) : sProp 𝕄) := by
  have hn : ∀ δ p s, p ≠ pk δ → (iprop(emp) : sProp 𝕄) = Dm c δ p s 7 := fun δ p s hp =>
    (if_neg (by rintro (h | h); exacts [absurd h (by decide), hp h.2])).symm
  have hy : ∀ δ s, (CrdR δ c 7 (pk δ) s : sProp 𝕄) = Dm c δ (pk δ) s 7 := fun δ s => (if_pos (Or.inr ⟨rfl, rfl⟩)).symm
  unfold lastEnts A8 Two
  iintro H
  ihave H := (LC_cons c _ _) $$ H
  icases H with ⟨H1, H⟩
  ihave H := (LC_cons c _ _) $$ H
  icases H with ⟨H2, H⟩
  ihave H := (LC_cons c _ _) $$ H
  icases H with ⟨H3, H⟩
  ihave H := (LC_cons c _ _) $$ H
  icases H with ⟨H4, -⟩
  isplitl [H1 H2]
  · isplitl [H1]; · iapply (Entails.of_eq (hy .r 0)); iapply (CE_send c .r 7 0 0); iexact H1
    isplitr; · iapply (Entails.of_eq (hn .l 0 0 (by decide))); iempintro
    isplitl [H2]; · iapply (Entails.of_eq (hy .r 1)); iapply (CE_send c .r 7 0 1); iexact H2
    iapply (Entails.of_eq (hn .l 0 1 (by decide))); iempintro
  · isplitr; · iapply (Entails.of_eq (hn .r 1 0 (by decide))); iempintro
    isplitl [H3]; · iapply (Entails.of_eq (hy .l 0)); iapply (CE_send c .l 7 1 0); iexact H3
    isplitr; · iapply (Entails.of_eq (hn .r 1 1 (by decide))); iempintro
    iapply (Entails.of_eq (hy .l 1)); iapply (CE_send c .l 7 1 1); iexact H4

theorem LC_rest (c : Dev nD) : ∀ (n h : ℕ), h + n = 7 →
    LC (restN n) c ⊢ (iprop(A8 (fun δ p s => bigSep (Finset.Ico h 8) (Dm c δ p s)) ∗ bigSep (Finset.Ico h 7) (CrE c)) : sProp 𝕄)
  | 0, h, hh => by
    obtain rfl : h = 7 := hh
    have e : (fun (δ : Dir) (p s : Fin 2) => bigSep (Finset.Ico 7 8) (Dm (F := F) c δ p s)) = fun δ p s => Dm c δ p s 7 :=
      funext fun δ => funext fun p => funext fun s => bigSep_Ico_one 7 _
    rw [e, Finset.Ico_self, bigSep_empty]
    iintro H
    isplitl [H]
    · iapply (LC_last c); iexact H
    · iempintro
  | n + 1, h, hh => by
    have h6 : 6 - n = h := by omega
    have e : (fun (δ : Dir) (p s : Fin 2) => bigSep (Finset.Ico h 8) (Dm (F := F) c δ p s))
        = fun δ p s => iprop(Dm c δ p s h ∗ bigSep (Finset.Ico (h + 1) 8) (Dm c δ p s)) :=
      funext fun δ => funext fun p => funext fun s => bigSep_Ico_succ_bot (by omega) _
    rw [e, A8_sep_eq, bigSep_Ico_succ_bot (show h < 7 by omega)]
    unfold restN hopEnts
    rw [h6]
    iintro H
    ihave H := (LC_part c _ _ _) $$ H
    icases H with ⟨H0, H⟩
    ihave H := (LC_part c _ _ _) $$ H
    icases H with ⟨H1, H⟩
    ihave H := (LC_cons c _ _) $$ H
    icases H with ⟨C1, H⟩
    ihave H := (LC_cons c _ _) $$ H
    icases H with ⟨C2, H⟩
    ihave H := (LC_rest c n (h + 1) (by omega)) $$ H
    icases H with ⟨HA, HC⟩
    isplitr [C1 C2 HC]
    · isplitl [H0 H1]
      · iapply (A8_mono fun δ p s => Dm_lt c δ p s h (by omega))
        unfold A8
        isplitl [H0]; · iexact H0
        iexact H1
      · iexact HA
    isplitr [HC]
    · iapply (CrE_intro c h); isplitl [C1]; · iexact C1
      iexact C2
    · iexact HC

theorem cred_join (g : GSem nD τ sig) (i a b : ℕ) : iprop(cred (tallyAt g i a) ∗ cred (tallyAt g i b)) ⊢ (cred (tallyAt g i (a + b)) : sProp 𝕄) := by
  rw [← tallyAt_add]; exact (cred_add _ _).2

theorem CrE_CrW (c : Dev nD) (h : ℕ) (hh : 2 ≤ h) : CrE c h ⊢ (CrW c h 1 : sProp 𝕄) := by
  unfold CrE CrW CE credEnt
  rw [max_eq_left hh]
theorem CrW_join (c : Dev nD) (r a b : ℕ) : iprop(CrW c r a ∗ CrW c r b) ⊢ (CrW c r (a + b) : sProp 𝕄) := by
  unfold CrW
  iintro ⟨⟨A, B⟩, A', B'⟩
  isplitl [A A']
  · iapply (cred_join _ _ a b); isplitl [A] <;> iassumption
  · iapply (cred_join _ _ a b); isplitl [B] <;> iassumption

theorem CrE_all (c : Dev nD) : bigSep (Finset.Ico 0 7) (CrE c) ⊢ (CrWs c : sProp 𝕄) := by
  have e0 : ∀ h, h ≤ 2 → CrE c h ⊢ (CrW c 2 1 : sProp 𝕄) := fun h hh => by
    unfold CrE CrW CE credEnt
    rw [max_eq_right hh]
  unfold CrWs
  rw [bigSep_Ico_succ_bot (by decide), bigSep_Ico_succ_bot (by decide), bigSep_Ico_succ_bot (by decide), bigSep_Ico_succ_bot (by decide),
    bigSep_Ico_succ_bot (by decide), bigSep_Ico_succ_bot (by decide), bigSep_Ico_succ_bot (by decide)]
  iintro ⟨H0, H1, H2, H3, H4, H5, H6, -⟩
  ihave H0 := (e0 0 (by decide)) $$ H0
  ihave H1 := (e0 1 (by decide)) $$ H1
  ihave H2 := (e0 2 (by decide)) $$ H2
  isplitl [H0 H1 H2]
  · iapply (CrW_join c 2 1 2)
    isplitl [H0]; · iexact H0
    iapply (CrW_join c 2 1 1)
    isplitl [H1] <;> iassumption
  isplitl [H3]; · iapply (CrE_CrW c 3 (by decide)); iexact H3
  isplitl [H4]; · iapply (CrE_CrW c 4 (by decide)); iexact H4
  isplitl [H5]; · iapply (CrE_CrW c 5 (by decide)); iexact H5
  iapply (CrE_CrW c 6 (by decide)); iexact H6

/-- All the credits of a device. -/
theorem credits_all (c : Dev nD) : LC allEnts c
    ⊢ (iprop(cred (tallyAt (barC c) 1 2) ∗ A8 (fun δ p s => bigSep (Finset.Ico 0 8) (Dm c δ p s)) ∗ CrWs c) : sProp 𝕄) := by
  unfold allEnts rest
  iintro H
  ihave H := (LC_cons c _ _) $$ H
  icases H with ⟨B1, H⟩
  ihave H := (LC_cons c _ _) $$ H
  icases H with ⟨B2, H⟩
  ihave H := (LC_rest c 7 0 rfl) $$ H
  icases H with ⟨HA, HC⟩
  isplitl [B1 B2]
  · iapply (cred_join (barC c) 1 1 1)
    isplitl [B1]; · iapply (CE_bar c .r); iexact B1
    iapply (CE_bar c .l); iexact B2
  isplitl [HA]; · iexact HA
  iapply (CrE_all c); iexact HC

/-! ## A device's share -/

theorem Tok_in (δ : Dir) (c : Dev nD) (p s : Fin 2) (i : ℕ) :
    iprop(SendTok δ c i p s ∗ Wr δ c i p s ∗ Rdr δ c i p s ∗ Dm c δ p s i) ⊢ (Tok' δ c p s i : sProp 𝕄) := by
  unfold Tok' Dm
  by_cases hd : dom δ i p
  · rw [if_pos hd, if_pos hd]
    iintro ⟨H1, H2, H3, H4⟩
    isplitl [H1]; · iexact H1
    isplitl [H2]; · iexact H2
    isplitl [H4] <;> iassumption
  · rw [if_neg hd, if_neg hd]
    iintro -
    iempintro

/-- The positions of a piece's cells, each at its first round. -/
theorem P_in (δ : Dir) (c : Dev nD) (p s : Fin 2) (k : Fin 3) (h : ℕ) (hk : sl (h + 1) = k) (hr : h / 3 = 0) :
    iprop(Ctx X ∗ atPos ER (kcell (c, rvI δ k p s)) 0 ∅ 0) ⊢ (P δ c h p s : sProp 𝕄) := by
  subst hk
  unfold P
  rw [kcell_rv, hr]
  iintro ⟨#HC, H⟩
  ihave HR := (ctx_rv X δ c (sl (h + 1)) p s) $$ HC
  icases HR with ⟨-, HR⟩
  isplitl [H] <;> iassumption
theorem Q_in (δ : Dir) (c : Dev nD) (p s : Fin 2) (k : Fin 3) (h : ℕ) (hk : sS h = k) (hr : sR h = 0) :
    iprop(Ctx X ∗ atPos ER (kcell (c, sdI δ k p s)) 0 ∅ 0) ⊢ (Q δ c h p s : sProp 𝕄) := by
  subst hk
  unfold Q
  rw [kcell_sd, hr]
  iintro ⟨#HC, H⟩
  ihave HR := (ctx_sd X δ c (sS h) p s) $$ HC
  icases HR with ⟨-, HR⟩
  isplitl [H] <;> iassumption

/-- What the launch and the owed credits bring for a piece. -/
def Raw (c : Dev nD) (δ : Dir) (p s : Fin 2) : sProp 𝕄 :=
  iprop(Six (fun k => atPos ER (kcell (c, k)) 0 ∅ 0) δ p s ∗ STx c δ p s ∗ WRx c δ p s ∗ RDx c δ p s ∗ bigSep (Finset.Ico 0 8) (Dm c δ p s))

theorem raw_deal (c : Dev nD) (δ : Dir) (p s : Fin 2) : iprop(Ctx X ∗ Raw c δ p s) ⊢ (Deal δ c p s : sProp 𝕄) := by
  have hT : iprop(STx c δ p s ∗ WRx c δ p s ∗ RDx c δ p s ∗ bigSep (Finset.Ico 0 8) (Dm c δ p s)) ⊢ (bigSep (Finset.Ico 0 8) (Tok' δ c p s) : sProp 𝕄) := by
    unfold STx WRx RDx
    rw [← bigSep_sep', ← bigSep_sep', ← bigSep_sep']
    exact bigSep_mono fun i _ => Tok_in δ c p s i
  unfold Raw Six Deal Ps
  iintro ⟨#HC, ⟨⟨r0, r1, r2⟩, s0, s1, s2⟩, HT⟩
  isplitl [r0 r1 r2]
  · isplitl [r1]; · iapply (P_in X δ c p s 1 0 rfl rfl); isplitr <;> iassumption
    isplitl [r2]; · iapply (P_in X δ c p s 2 (0 + 1) rfl rfl); isplitr <;> iassumption
    iapply (P_in X δ c p s 0 (0 + 2) rfl rfl); isplitr <;> iassumption
  isplitl [s1]; · iapply (Q_in X δ c p s 1 0 rfl rfl); isplitr <;> iassumption
  isplitl [s2]; · iapply (Q_in X δ c p s 2 2 rfl rfl); isplitr <;> iassumption
  isplitl [s0]; · iapply (Q_in X δ c p s 0 3 rfl rfl); isplitr <;> iassumption
  iapply hT; iexact HT

theorem with_ctx {I : Type} [DecidableEq I] {S : Finset I} {R : sProp 𝕄} [BI.Persistent R] {A B : I → sProp 𝕄}
    (h : ∀ i ∈ S, iprop(R ∗ A i) ⊢ B i) : iprop(R ∗ bigSep S A) ⊢ bigSep S B :=
  (sep_mono_left (BI.bigSep_of_persistent S R)).trans (by rw [← bigSep_sep']; exact bigSep_mono h)

theorem raw_all (c : Dev nD) : iprop(Ctx X ∗ A8 (Raw c)) ⊢ (A8 (fun δ p s => Deal δ c p s) : sProp 𝕄) := by
  rw [← big_A8, ← big_A8]
  exact with_ctx fun x _ => raw_deal X c x.1 x.2.1 x.2.2

/-- The rights of a device: its cells' positions, its tokens, the slots' rights. -/
def Mine (c : Dev nD) : sProp 𝕄 :=
  iprop((bigSep Finset.univ fun k : Fin 51 => atPos ER (kcell (c, k)) 0 ∅ 0) ∗ toks c ∗ A8 (RDx c) ∗ A8 (WRx c))

/-- What the launch deals. -/
theorem dealt_intro (c : Dev nD) : iprop(Ctx X ∗ Mine c ∗ LC allEnts c) ⊢ (Dealt c : sProp 𝕄) := by
  have hraw : iprop(A8 (Six fun k => atPos ER (kcell (c, k)) 0 ∅ 0) ∗ A8 (STx c) ∗ A8 (WRx c) ∗ A8 (RDx c) ∗ A8 (fun δ p s => bigSep (Finset.Ico 0 8) (Dm c δ p s)))
      ⊢ (A8 (Raw c) : sProp 𝕄) := by
    rw [← A8_sep_eq, ← A8_sep_eq, ← A8_sep_eq, ← A8_sep_eq]
    exact A8_mono fun δ p s => Entails.of_eq rfl
  unfold Mine Dealt Hand
  rw [big_cells, kcell_cr, kcell_cr, kcell_bar]
  iintro ⟨#HC, ⟨⟨Hb, Hr, Hl, H6⟩, HT, HR, HW⟩, HL⟩
  ihave HT := (toks_split c) $$ HT
  icases HT with ⟨HS, HCT, B1, B2⟩
  ihave HL := (credits_all c) $$ HL
  icases HL with ⟨HB, HD, HCR⟩
  isplitl [B1 B2 Hb HB]
  · isplitl [B1]; · iexact B1
    isplitl [B2]; · iexact B2
    isplitl [Hb] <;> iassumption
  isplitl [H6 HS HR HW HD]
  · iapply (raw_all X c)
    isplitr; · iexact HC
    iapply hraw
    isplitl [H6]; · iexact H6
    isplitl [HS]; · iexact HS
    isplitl [HW]; · iexact HW
    isplitl [HR] <;> iassumption
  isplitl [HCT]; · iexact HCT
  isplitl [Hr Hl]
  · isplitl [Hr] <;> iassumption
  iexact HCR

end Cert.RingProof

end
-- ==== Proof.Launch.lean ====
/- The launch: the shares dealt, the pipeline's data and the run. -/
module

public import proofs.«01_k».proof.Proof.Deal
public import Idealize.ShloMosaic.Lib.Pipeline.CollectiveSegs

@[expose] public section

set_option maxRecDepth 8000

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

open Idealize.ShloMosaic.Pipeline (Dat Cfg Window BodyObligation cellOf)

variable {F : FTy → Type} [FloatOps F]
local notation "𝕄" => MT nD τ sig ℕ (Elt F) ℕ UU ℕ

section Shares

variable (X : Dev nD → S256x4096.Idx → Elt F .f32)

/-! ## The launch's element and its shares -/

def uA : UA := ((initOf ringCells ringToks, Release.initSlots (Finset.univ : Finset Key) 1) : UB × Release.USlots Key)
def u₀ : UU := (initOf (Pipeline.cells cfgs cellOf_inj) (Pipeline.launchToks cfgs cellOf_inj), uA)

/-- What the element deals a device: its cells' states, its rights, and what everyone knows of the slots. -/
def Gx (c : Dev nD) : sProp 𝕄 :=
  iprop((bigSep Finset.univ fun k : Fin 51 => roundState ER (Rd X) (kcell (c, k)) 0)
    ∗ (bigSep Finset.univ fun k : Fin 51 => reached ER (kcell (c, k)) 0) ∗ (bigSep Finset.univ fun k : Key => SI k) ∗ Mine c)
/-- The same once the cells are invariants, each device knowing all of them. -/
def Gx' (c : Dev nD) : sProp 𝕄 :=
  iprop(((bigSep Finset.univ fun ci : Dev nD × Fin 51 => CI X (kcell ci)) ∗ (bigSep Finset.univ fun ci : Dev nD × Fin 51 => reached ER (kcell ci) 0)
    ∗ (bigSep Finset.univ fun k : Key => SI k)) ∗ Mine c)

theorem big_ring (A : GSem nD τ sig → sProp 𝕄) : bigSep ringCells A = bigSep Finset.univ fun c : Dev nD => bigSep Finset.univ fun k : Fin 51 => A (kcell (c, k)) := by
  unfold ringCells; rw [bigSep_map, bigSep_univ_prod]; rfl
theorem big_toks : bigSep ringToks (fun x => (dutyTok ER x.1 x.2.1 x.2.2 : sProp 𝕄)) = bigSep Finset.univ fun c : Dev nD => toks c := by
  unfold ringToks; rw [bigSep_map, bigSep_univ_prod]; rfl

theorem uA_split : (BI.own (embR uA) : sProp 𝕄)
    ⊢ iprop(BI.own (ER (initOf ringCells ringToks)) ∗ BI.own (ES (Release.initSlots (Finset.univ : Finset Key) 1))) :=
  own_pair_emb (A := UB) (B := Release.USlots Key) (embR : Emb (UB × Release.USlots Key) 𝕄) _ _

theorem SI_in (ιs : Key → ℕ) : (bigSep Finset.univ fun k : Key => (Release.slotInv ES (ιs k) k (slotOf k) : sProp 𝕄)) ⊢ bigSep Finset.univ fun k : Key => SI k := by
  have h : ∀ k : Key, (Release.slotInv ES (ιs k) k (slotOf k) : sProp 𝕄) ⊢ SI k := fun k => by
    unfold SI; iintro H; iexists (ιs k); iexact H
  exact bigSep_mono fun k _ => h k

theorem fund : (BI.own (embR uA) : sProp 𝕄) ⊢ |={Set.univ}=> bigSep Finset.univ (Gx X) := by
  unfold Gx Mine
  simp only [bigSep_sep']
  iintro H
  ihave H := (uA_split (F := F)) $$ H
  icases H with ⟨HR, HS⟩
  imod (Rounds.fund ER (Rd X) ringCells ringToks) $$ HR with ⟨Hst, Hr, Hat, Htok⟩
  imod (Release.slots_init (Es := Set.univ) ES Finset.univ 1 slotOf) $$ HS with ⟨%ιs, -, HI, Hrd, Hwr⟩
  imodintro
  ihave Hst := (Entails.of_eq (big_ring fun g => roundState ER (Rd X) g 0)) $$ Hst
  ihave Hat := (Entails.of_eq (big_ring fun g => atPos ER g 0 ∅ 0)) $$ Hat
  ihave Hr := (Entails.of_eq (big_ring fun g => reached ER g 0)) $$ Hr
  ihave Htok := (Entails.of_eq big_toks) $$ Htok
  ihave HI := (SI_in ιs) $$ HI
  isplitl [Hst]; · iexact Hst
  isplitl [Hr]; · iexact Hr
  isplitl [HI]
  · iapply (BI.bigSep_of_persistent (Finset.univ : Finset (Dev nD)) (bigSep Finset.univ fun k : Key => (SI k : sProp 𝕄))); iexact HI
  isplitl [Hat]; · iexact Hat
  isplitl [Htok]; · iexact Htok
  isplitl [Hrd]; · iapply (readers_deal (F := F)); iexact Hrd
  iapply (writers_deal (F := F)); iexact Hwr

/-- A device's cells become invariants, -/
theorem core_alloc (c : Dev nD) :
    iprop(Pipeline.ownSems0 (Ix := ℕ) (Name := ℕ) (U := UU) (Lvl := ℕ) (Val := Elt F) (τ := τ) osem c ∗ unscopedSems0 c ∗ Gx X c)
      ⊢ (|={Set.univ}=> iprop((bigSep Finset.univ fun k : Fin 51 => CI X (kcell (c, k)))
          ∗ (bigSep Finset.univ fun k : Fin 51 => reached ER (kcell (c, k)) 0) ∗ (bigSep Finset.univ fun k : Key => SI k) ∗ Mine c) : sProp 𝕄) := by
  unfold Gx
  iintro ⟨Hos, Hus, Hst, HG⟩
  ihave Hv := (Entails.of_eq (zeros (F := F) c).symm) $$ [Hos Hus]
  · isplitl [Hus] <;> iassumption
  imod (show iprop((bigSep Finset.univ fun k : Fin 51 => semVal (kcell (c, k)) 0) ∗ bigSep Finset.univ fun k : Fin 51 => roundState ER (Rd X) (kcell (c, k)) 0)
      ⊢ (|={Set.univ}=> bigSep Finset.univ fun k : Fin 51 => CI X (kcell (c, k)) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv] <;> iassumption

/-- and all the devices' together are known to each. -/
theorem regroup :
    (bigSep Finset.univ fun c : Dev nD => iprop((bigSep Finset.univ fun k : Fin 51 => CI X (kcell (c, k)))
          ∗ (bigSep Finset.univ fun k : Fin 51 => reached ER (kcell (c, k)) 0) ∗ (bigSep Finset.univ fun k : Key => SI k) ∗ Mine c) : sProp 𝕄)
      ⊢ bigSep Finset.univ (Gx' X) := by
  rw [bigSep_sep', bigSep_sep', bigSep_sep', ← bigSep_univ_prod (fun ck : Dev nD × Fin 51 => CI X (kcell ck)),
    ← bigSep_univ_prod (fun ck : Dev nD × Fin 51 => (reached ER (kcell ck) 0 : sProp 𝕄))]
  iintro ⟨#HI, #HR, #HS, HM⟩
  iapply (with_ctx (R := iprop((bigSep Finset.univ fun ci : Dev nD × Fin 51 => CI X (kcell ci)) ∗ (bigSep Finset.univ fun ci : Dev nD × Fin 51 => reached ER (kcell ci) 0)
    ∗ (bigSep Finset.univ fun k : Key => SI k))) (A := Mine) (B := Gx' X) fun c _ => Entails.of_eq rfl)
  isplitr
  · isplitr; · iexact HI
    isplitr; · iexact HR
    iapply (show (bigSep Finset.univ fun _ : Dev nD => bigSep Finset.univ fun k : Key => (SI k : sProp 𝕄)) ⊢ bigSep Finset.univ fun k : Key => SI k
      from bigSep_elim (Finset.mem_univ (0 : Dev nD)))
    iexact HS
  · iexact HM

theorem glob : (bigSep Finset.univ fun c => iprop(Pipeline.ownSems0 (Ix := ℕ) (Name := ℕ) (U := UU) (Lvl := ℕ) (Val := Elt F) (τ := τ) osem c ∗ unscopedSems0 c ∗ Gx X c) : sProp 𝕄)
    ⊢ |={Set.univ}=> bigSep Finset.univ (Gx' X) :=
  ((bigSep_mono fun c _ => core_alloc X c).trans (bigSep_fupd _ _)).trans (BI.fupd_mono (regroup X))

/-- What a device's body starts from. -/
def start (c : Dev nD) : sProp 𝕄 := iprop(Ctx X ∗ Dealt c)

end Shares

/-! ## The pipeline's data -/

section Run

variable (m : (ℓ : Loc nD τ sig) → Buf (Elt F) ℓ) (ρ : Dev nD → PrngReg)

def s₀ : MemSt nD τ sig (Elt F) := ⟨m, fun _ => 0, ρ⟩

/-- The blocks as the launch stages them. -/
def xstg (c : Dev nD) : S256x4096.Idx → Elt F .f32 := (win0_0.blk (0 : Fin 1)).view.read (Elt F) ((s₀ m ρ).mem ((c : Thread nD τ).loc main_arg0))
def wstg (c : Dev nD) : S4096x128.Idx → Elt F .f32 := (win0_1.blk (0 : Fin 1)).view.read (Elt F) ((s₀ m ρ).mem ((c : Thread nD τ).loc main_arg1))
/-- The device's result. -/
def outAt (c : Dev nD) : S4096x128.Idx → Elt F .f32 := G (xstg m ρ) (wstg m ρ) c

def Φ₀ (c : Dev nD) : sProp 𝕄 := iprop(start (xstg m ρ) c ∗ Scr .r c ∗ Scr .l c)
def Φ₁ (c : Dev nD) : sProp 𝕄 :=
  iprop(unscopedSems0 c ∗ Pipeline.ownSems0 (Ix := ℕ) (Name := ℕ) (U := UU) (Lvl := ℕ) (Val := Elt F) (τ := τ) osem c ∗ Scr .r c ∗ Scr .l c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => obl c allEnts
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (A : Fin cfg0.W → sProp 𝕄) : bigSep Finset.univ A = iprop(A (0 : Fin 3) ∗ A (1 : Fin 3) ∗ A (2 : Fin 3)) := bigSep_W0 A
theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl
theorem owns_stage (c : Dev nD) (b : Ref sig .tc) (Y : b.ty.Contents (Elt F)) :
    (owns (Ix := ℕ) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt 0 t₀.succ ∗ stg c cc0_stg0_0 (xstg m ρ c) ∗ stg c cc0_stg1_0 (wstg m ρ c) ∗ stg c cc0_stg2_0 (outAt m ρ c))

/-- The device's number is its own. -/
theorem wp_dev (c : Dev nD) (k : Dev nD → PT (F := F) PUnit) (A : PUnit → sProp 𝕄) : WP c (k c) A ⊢ WP c (Prog.lift .deviceId >>= k) A := by
  simp only [Prog.lift, Prog.bind_op, Prog.bind_ret, wp_deviceId]
  exact BI.Entails.refl _

attribute [local irreducible] cc0_body body

/-- The printed body runs as the program of the ring does. -/
theorem wp_printed (c : Dev nD) (A : PUnit → sProp 𝕄) : WP c (body xM wM oM (T c) c) A
    ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _)
        cc0_scratch2 cc0_scratch3 cc0_scratch4 cc0_scratch5 cc0_scratch6 cc0_scratch7) A := by
  rw [cc0_body_eq]
  exact wp_dev c (fun d => body xM wM oM (fun i => (devTab d).getD i d) d) A

theorem sound_body (c : Dev nD) : bodyPre m ρ c ⊢ wp frame (wpE (defs₀ (F := F)) 𝒱₀ c none) Set.univ
      (cc0_body (Memref.whole cc0_stg0_0) (Memref.isWhole_whole _) (Memref.whole cc0_stg1_0) (Memref.isWhole_whole _) (Memref.whole cc0_stg2_0) (Memref.isWhole_whole _)
        (Memref.whole cc0_scratch0) (Memref.isWhole_whole _) (Memref.whole cc0_scratch1) (Memref.isWhole_whole _)
        cc0_scratch2 cc0_scratch3 cc0_scratch4 cc0_scratch5 cc0_scratch6 cc0_scratch7) (fun _ => bodyPost m ρ c) := by
  unfold bodyPre Φ₀ start
  iintro ⟨⟨⟨#HC, HD⟩, Hr, Hl⟩, Ho, ⟨%d0, %g0, %hg0, Hx⟩, ⟨%d1, %g1, %hg1, Hw⟩, ⟨%d2, %g2, -, Hout⟩⟩
  have hx : g0 = xstg m ρ c := by rw [hg0]; unfold Dat.before; rw [if_pos (fetch_0 t₀)]; rfl
  have hw : g1 = wstg m ρ c := by rw [hg1]; unfold Dat.before; rw [if_pos (fetch_1 t₀)]; rfl
  subst hx hw
  unfold Dat.owesAt Pipeline.owesWithin
  icases Ho with ⟨%W, -, Ho⟩
  ihave HX := (XSt_intro (xstg m ρ) c) $$ Hx
  ihave Hr := (Scr_split .r c) $$ Hr
  ihave Hl := (Scr_split .l c) $$ Hl
  iapply (wp_printed c _)
  iapply (wp_body (xstg m ρ) (wstg m ρ) c _) $$ [HD Hr Hl HX Hw Hout Ho]
  · isplitr; · iexact HC
    isplitl [HD]; · iexact HD
    isplitl [Hr Hl]
    · unfold Own2; isplitl [Hr] <;> iassumption
    isplitl [HX]; · iexact HX
    isplitl [Hw]; · unfold WSt; iexact Hw
    isplitl [Hout]
    · unfold OutSt; iexists g2; isplitr; · ipureintro; exact fun i hi => absurd hi List.not_mem_nil
      iexact Hout
    unfold OW; iexists W; iexact Ho
  unfold OutSt OW WSt
  iintro ⟨HB, HX, Hw, ⟨%Y, %hY, Hout⟩, ⟨%W', Ho⟩⟩
  ihave HX := (XSt_elim (xstg m ρ) c) $$ HX
  ihave HB := (back_split c) $$ HB
  have hG : Y = outAt m ρ c := funext fun i => hY i (Dfin_all c _)
  subst hG
  unfold bodyPost Φ₁
  isplitl [HB]; · iexact HB
  isplitl [Ho]
  · unfold Dat.owesAt Pipeline.owesWithin
    iexists W'
    isplitr; · ipureintro; exact fun _ _ => Or.inl trivial
    iexact Ho
  isplitl [HX]
  · iexists _; isplitr; · (ipureintro; rfl)
    iexact HX
  isplitl [Hw]
  · iexists _; isplitr; · (ipureintro; rfl)
    iexact Hw
  iexists _; isplitr; · (ipureintro; rfl)
  iexact Hout

theorem body_obligation (c : Dev nD) : BodyObligation (dats (F := F) m ρ 0 c) (defs₀ (F := F)) 𝒱₀ 0 Set.univ := fun t => by
  rw [fin_N t]
  rw [bigSep_W, bigSep_W]
  simp only [owns_stage]
  exact sound_body m ρ c

/-! ## The launch -/

theorem csem_inj : Function.Injective csem := by decide +kernel
theorem ownSemFacts : Pipeline.OwnSemFacts cfg0.spec osem :=
  ⟨by decide +kernel, fun a b h => Fin.succ_injective _ (csem_inj h), by decide +kernel⟩
theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => obl d allEnts) c ∗ prngReg c (ρ c) ∗ Gx' (xstg m ρ) c)
      ⊢ (|={Set.univ}=> iprop(start (xstg m ρ) c ∗ emp) : sProp 𝕄) := by
  unfold Gx' start
  iintro ⟨-, #Hlev, Hcr, -, ⟨#HI, #HR, #HS⟩, HM⟩
  imodintro
  isplitl [Hcr HM]
  · ihave HC : Ctx (xstg m ρ) $$ []
    · unfold Ctx
      isplitr; · iexact HI
      isplitr; · iexact HR
      isplitr; · iexact HS
      iexact Hlev
    icases HC with #HC
    isplitr; · iexact HC
    iapply (dealt_intro (xstg m ρ) c)
    isplitr; · iexact HC
    isplitl [HM]; · iexact HM
    unfold LC; iexact Hcr
  · iempintro

theorem phi0_intro (c : Dev nD) :
    iprop(start (xstg m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H1, H2⟩
  isplitl [Hs]; · iexact Hs
  isplitl [H1]; · unfold Scr; iexact H1
  unfold Scr; iexact H2

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ Scr
  exact Entails.of_eq rfl

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (by fin_cases w <;> fin_cases s <;> decide) allEnts lb_all
    · exact mayWait c _ 0 (by fin_cases w <;> fin_cases s <;> decide) [] (lb_nil _)

/-! ## The run -/

def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values and from any memory with zero counters, every weakly fair execution ends, with the arrays at
    their computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => obl d allEnts) (howed₀ := fun _ => rfl) (howedN := fun _ => rfl)
    (L := L) (lv := lv) (hL := L_of_ne) (hwaits := waits m ρ)
    (G := Gx (xstg m ρ)) (G' := Gx' (xstg m ρ)) (u₀ := u₀)
    (hu₀ := by
      unfold u₀
      iintro Hu
      ihave H := (ownU_pair _ _) $$ Hu
      icases H with ⟨HP, HX⟩
      imod (fund (xstg m ρ)) $$ HX with HG
      imodintro
      isplitl [HP] <;> iassumption)
    (hglob := glob (xstg m ρ))
    (hA := fun _ _ => rfl) (hpf := fun _ k => k.elim0)
    (X := start (xstg m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays keep their contents; -/
theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

end Run

end Cert.RingProof

end
-- ==== Proof.Value.lean ====
/- The value at the ideal floats: what a device's result array holds, as sums of products of the arguments.

   Row `a` of a device's result is row `a % 256` of device `a / 256`'s rows times the device's columns, whichever
   product (of 128 or of 64 rows) computed it. With the arguments cut from whole arrays, that is the device's block
   of columns of the whole product. -/
module

public import proofs.«01_k».proof.Proof.Launch
public import proofs.«01_k».proof.ReferenceIdeal
public import proofs.«01_k».proof.Proof.Gen.ReferenceIdeal
public import Idealize.ShloMosaic.Lib.MatmulPlain
public import Idealize.ShloMosaic.Lib.StackMember
public import Idealize.ShloMosaic.Lib.Layout

@[expose] public section

set_option maxRecDepth 8000

noncomputable section

namespace Cert.RingProof

open Cert.KernelIdeal Cert.KernelIdeal.Gen
open Idealize.ShloMosaic Idealize.ShloMosaic.TcCoe Idealize.ShloMosaic.ValueIdx Idealize.SL.Sem
open scoped BigOperators

/-! ## The arrays -/

section
variable {F : FTy → Type} [FloatOps F]
variable (m : (ℓ : Loc nD τ sig) → Buf (Elt F) ℓ) (ρ : Dev nD → PrngReg)

/-- A window's one block starts at zero on both axes. -/
theorem start_zero (g : Fin 2 → ℕ) : (fun a : Fin 2 => (0 : ℕ) * g a) = fun _ => 0 := funext fun a => Nat.zero_mul _

/-- The kernel reads the whole of each argument array, -/
theorem xstg_eq (c : Dev nD) : xstg m ρ c = m ((c : Thread nD τ).loc main_arg0) :=
  Memref.read_access_unit_zero (Elt F) main_arg0 (start_zero _) (fun a => by fin_cases a <;> decide) _
theorem wstg_eq (c : Dev nD) : wstg m ρ c = m ((c : Thread nD τ).loc main_arg1) :=
  Memref.read_access_unit_zero (Elt F) main_arg1 (start_zero _) (fun a => by fin_cases a <;> decide) _

/-- and the result array ends as the body leaves its staging buffer. -/
theorem finalA_out (c : Dev nD) : finalA m ρ c (2 : Fin 3) = outAt m ρ c := by
  refine (Memref.read_access_unit_zero (Elt F) main_v1 (start_zero _) (fun a => by fin_cases a <;> decide) _).symm.trans
    (?_ : (win0_2.blk (0 : Fin 1)).view.read (Elt F) (finalA m ρ c (2 : Fin 3)) = outAt m ρ c)
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _
end

/-! ## The products -/

/-- A 128-row product, entry by entry, -/
theorem mm128_sum (v : S128x4096.Idx → Elt Ideal .f32) (w : S4096x128.Idx → Elt Ideal .f32) (r q : Fin 128) :
    mm128 (F := Ideal) v w (ix2 r q) = ∑ k : Fin 4096, v (ix2 r k) * w (ix2 k q) := by
  unfold mm128
  rw [shapeCast_self]
  refine (Ideal.matmul_plain_apply none v w _ r q).trans ?_
  rw [constant_apply, Ideal.ofBits_zero_f32, zero_add]

/-- and a 64-row one. -/
theorem mm64_sum (v : S64x4096.Idx → Elt Ideal .f32) (w : S4096x128.Idx → Elt Ideal .f32) (r : Fin 64) (q : Fin 128) :
    mm64 (F := Ideal) v w (ix2 r q) = ∑ k : Fin 4096, v (ix2 r k) * w (ix2 k q) := by
  unfold mm64
  rw [shapeCast_self]
  refine (Ideal.matmul_plain_apply none v w _ r q).trans ?_
  rw [constant_apply, Ideal.ofBits_zero_f32, zero_add]

/-- The device that holds global row `a`, and the row's number there. -/
def rowDev (a : Fin 4096) : Dev nD := ⟨a.val / 256, by have := a.isLt; show a.val / 256 < 16; omega⟩
def rowIn (a : Fin 4096) : Fin 256 := ⟨a.val % 256, Nat.mod_lt _ (by decide)⟩

variable (X : Dev nD → S256x4096.Idx → Elt Ideal .f32) (W : Dev nD → S4096x128.Idx → Elt Ideal .f32)

/-- The output of a device, as sums: the same for both sizes of product. -/
theorem G_sum (c : Dev nD) (a : Fin 4096) (q : Fin 128) :
    G X W c (ix2 a q) = ∑ k : Fin 4096, X (rowDev a) (ix2 (rowIn a) k) * W c (ix2 k q) := by
  have ha := a.isLt
  have hd : (blk (ix2 a q)).1 = rowDev a := Fin.ext (by show a.val / 256 % 16 = a.val / 256; omega)
  unfold G
  split
  · refine (mm64_sum _ _ _ _).trans (Finset.sum_congr rfl fun k _ => ?_)
    rw [hd]
    refine congrArg (X (rowDev a) · * W c (ix2 k q)) (funext fun b => Fin.ext ?_)
    match b with
    | ⟨0, _⟩ => show 128 * (a.val / 128 % 2) + 64 * (a.val / 64 % 2) + 1 * (a.val % 64) = a.val % 256; omega
    | ⟨1, _⟩ => show 0 + 1 * k.val = k.val; omega
  · refine (mm128_sum _ _ _ _).trans (Finset.sum_congr rfl fun k _ => ?_)
    rw [hd]
    refine congrArg (X (rowDev a) · * W c (ix2 k q)) (funext fun b => Fin.ext ?_)
    match b with
    | ⟨0, _⟩ => show 128 * (a.val / 128 % 2) + 1 * (a.val % 128) = a.val % 256; omega
    | ⟨1, _⟩ => show 0 + 1 * k.val = k.val; omega

/-- The whole product. -/
def whole (A : (⟨2, ![4096, 4096]⟩ : Shape).Idx → Elt Ideal .f32) (B : (⟨2, ![4096, 2048]⟩ : Shape).Idx → Elt Ideal .f32) :
    (⟨2, ![4096, 2048]⟩ : Shape).Idx → Elt Ideal .f32 :=
  Host.dotGeneral (F := Ideal) (φ₁ := .f32) (φ₂ := .f32) Cert.ReferenceIdeal.dot_S4096x4096_S4096x2048_S4096x2048_1_0_0_1_n_n none A B

/-- From a device's rows and columns of whole arrays, the output is its columns of the whole product. -/
theorem G_block (A : (⟨2, ![4096, 4096]⟩ : Shape).Idx → Elt Ideal .f32) (B : (⟨2, ![4096, 2048]⟩ : Shape).Idx → Elt Ideal .f32)
    (hX : ∀ d : Dev nD, X d = Layout.block ⟨2, ![256, 4096]⟩ ⟨2, ![4096, 4096]⟩ 0 16 d A)
    (hW : ∀ d : Dev nD, W d = Layout.block ⟨2, ![4096, 128]⟩ ⟨2, ![4096, 2048]⟩ 1 16 d B) (c : Dev nD) :
    G X W c = Layout.block ⟨2, ![4096, 128]⟩ ⟨2, ![4096, 2048]⟩ 1 16 c (whole A B) := by
  funext i
  obtain ⟨a, q, rfl⟩ : ∃ (a : Fin 4096) (q : Fin 128), i = ix2 a q := ⟨i 0, i 1, eq_ix2 i⟩
  have hc : c.val < 16 := c.isLt
  have hq := q.isLt
  have ha := a.isLt
  rw [G_sum, Layout.block_apply]
  have e : ∀ h : Layout.Tiles ⟨2, ![4096, 128]⟩ ⟨2, ![4096, 2048]⟩ 1 16, ∀ b : Fin 4096,
      h.idx c (ix2 b q) = ix2 b (⟨c.val * 128 + q.val, by omega⟩ : Fin 2048) := fun h b => funext fun x => by
    match x with
    | ⟨0, _⟩ => rfl
    | ⟨1, _⟩ => rfl
  rw [e]
  refine Eq.trans ?_ (StackMember.dotGeneral_plain_apply none A B a _).symm
  refine Finset.sum_congr rfl fun k _ => ?_
  rw [hX, hW, Layout.block_apply, Layout.block_apply, e]
  refine congrArg (A · * B _) (funext fun x => Fin.ext ?_)
  match x with
  | ⟨0, _⟩ => show a.val / 256 * 256 + a.val % 256 = a.val; omega
  | ⟨1, _⟩ => rfl

end Cert.RingProof

end
-- ==== Proof.lean ====
/- The certificate: the frames of the kernel, of its idealized copy and of the reference, and the value that the kernel computes. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value

@[expose] public section

set_option maxRecDepth 100000

noncomputable section

namespace Cert.Proof

open Idealize.ShloMosaic Idealize.SL.Sem

/-! ## The programs as printed twice

The kernel and its idealized copy have the same text, so their body tables are equal. -/

attribute [local instance] Cert.Kernel.Gen.facts Cert.KernelIdeal.Gen.facts

/-- The kernel's body is the idealized copy's, at the bit-exact floats. -/
theorem body_same : @Cert.Kernel.cc0_body Bits _ _ = @Cert.KernelIdeal.cc0_body Bits _ _ := rfl

/-- So are the tables of kernel bodies, label by label; -/
theorem kernels_same : @Cert.Kernel.defs₀ Bits _ _ = @Cert.KernelIdeal.defs₀ Bits _ _ :=
  congrArg (Defs.onTc (Λ := Cert.KernelIdeal.Λ₀)) (funext fun l => funext fun a => by
    match l, a with
    | ⟨0, _⟩, _ => rfl)

/-- and the tables of both programs. -/
theorem tables_same : @Cert.Kernel.defs Bits _ _ = @Cert.KernelIdeal.defs Bits _ _ :=
  congrArg (Idealize.ShloMosaic.Pipeline.defs (Cert.KernelIdeal.pcfgs (F := Bits))) kernels_same

/-! ## The frames -/

/-- The arguments of the idealized kernel keep their contents and every counter ends at zero, over any floats. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    ∀ D, D = Cert.KernelIdeal.defs (F := F) →
      (θ_run D (onTc (τ := Cert.KernelIdeal.τ) (Cert.KernelIdeal.main (F := F)))) ⟨m, fun _ => 0, ρ⟩ (fun r =>
        (∀ c : Dev Cert.KernelIdeal.nD, r.2.mem (c.tc.loc Cert.KernelIdeal.main_arg0) = m (c.tc.loc Cert.KernelIdeal.main_arg0)
          ∧ r.2.mem (c.tc.loc Cert.KernelIdeal.main_arg1) = m (c.tc.loc Cert.KernelIdeal.main_arg1)) ∧ r.2.sem = fun _ => 0) :=
  fun D hD => hD ▸ (θ_run (Cert.KernelIdeal.defs (F := F)) _ _).mono
    (fun _ h => ⟨fun c => ⟨(h.1 c (0 : Fin 3)).trans (Cert.RingProof.finalA_x m ρ c),
      (h.1 c (1 : Fin 3)).trans (Cert.RingProof.finalA_w m ρ c)⟩, h.2⟩)
    (Cert.RingProof.run_main m ρ)

theorem frame_kernel : Cert.quiescent_Kernel (hKernel := Cert.Kernel.Gen.facts) := fun m ρ _ => run_frame m ρ _ tables_same

theorem frame_ideal : Cert.quiescent_KernelIdeal (hKernelIdeal := Cert.KernelIdeal.Gen.facts) := fun m ρ _ => run_frame m ρ _ rfl

/-- The reference has no semaphore, and its one operation writes neither argument. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-! ## The value -/

/-- The ring's result array is each device's columns of the product of the whole arrays, as the reference computes it. -/
theorem ring_product : Cert.algebraic_KernelIdeal_ReferenceIdeal (hKernelIdeal := Cert.KernelIdeal.Gen.facts)
    (hReferenceIdeal := Cert.ReferenceIdeal.Gen.facts) := fun m ρ m' ρ' _ hargs =>
  ⟨Cert.RingProof.whole (m' ((0 : Dev Cert.ReferenceIdeal.nD).tc.loc Cert.ReferenceIdeal.main_arg0))
      (m' ((0 : Dev Cert.ReferenceIdeal.nD).tc.loc Cert.ReferenceIdeal.main_arg1)),
    (θ_run (Cert.KernelIdeal.defs (F := Ideal)) _ _).mono
      (fun _ h c => ⟨((h.1 c (2 : Fin 3)).trans (Cert.RingProof.finalA_out m ρ c)).trans
          (Cert.RingProof.G_block _ _ _ _ (fun d => (Cert.RingProof.xstg_eq m ρ d).trans (hargs d).1)
            (fun d => (Cert.RingProof.wstg_eq m ρ d).trans (hargs d).2) c),
        (h.1 c (0 : Fin 3)).trans (Cert.RingProof.finalA_x m ρ c), (h.1 c (1 : Fin 3)).trans (Cert.RingProof.finalA_w m ρ c)⟩)
      (Cert.RingProof.run_main m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, ring_product⟩

end Cert.Proof

end
